-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ordered [hPre_finite_and_ordered : Cert.Pre_finite_and_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_and_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_and_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ordered [hPre_finite_and_ordered : Cert.Pre_finite_and_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_and_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_and_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_ordered [hKernelIdeal : Cert.KernelIdeal.Facts] [hPre_finite_and_ordered : Cert.Pre_finite_and_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_ordered [hReferenceIdeal : Cert.ReferenceIdeal.Facts] [hPre_finite_and_ordered : Cert.Pre_finite_and_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_ordered [hKernelIdeal : Cert.KernelIdeal.Facts] [hReferenceIdeal : Cert.ReferenceIdeal.Facts] [hPre_finite_and_ordered : Cert.Pre_finite_and_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_ordered : Cert.Pre_finite_and_ordered.Facts),
    quiescent_Kernel (hKernel := hKernel)
    ∧ quiescent_KernelIdeal (hKernelIdeal := hKernelIdeal)
    ∧ quiescent_KernelIdeal_pre_finite_and_ordered (hKernelIdeal := hKernelIdeal) (hPre_finite_and_ordered := hPre_finite_and_ordered)
    ∧ quiescent_ReferenceIdeal (hReferenceIdeal := hReferenceIdeal)
    ∧ quiescent_ReferenceIdeal_pre_finite_and_ordered (hReferenceIdeal := hReferenceIdeal) (hPre_finite_and_ordered := hPre_finite_and_ordered)
    ∧ preserves_Kernel_KernelIdeal
    ∧ algebraic_KernelIdeal_ReferenceIdeal_pre_finite_and_ordered (hKernelIdeal := hKernelIdeal) (hReferenceIdeal := hReferenceIdeal) (hPre_finite_and_ordered := hPre_finite_and_ordered)
-- ==== Pre_finite_and_ordered.lean ====
abbrev S4096x64 : Shape := ⟨2, ![4096, 64]⟩
abbrev S5 : Shape := ⟨1, ![5]⟩
abbrev S64x64 : Shape := ⟨2, ![64, 64]⟩
abbrev S_ : Shape := ⟨0, ![]⟩
abbrev S4 : Shape := ⟨1, ![4]⟩
abbrev S1 : Shape := ⟨1, ![1]⟩

class Facts : Prop where
  bcast_S_S4096x64 : S_.BroadcastsInDim S4096x64 (![] : Fin 0 → Fin S4096x64.rank)
  slices_S5_S4_0 : S5.Slices ![0] S4
  slices_S5_S4_1 : S5.Slices ![1] S4
  slices_S5_S1_0 : S5.Slices ![0] S1
  bcast_S_S1 : S_.BroadcastsInDim S1 (![] : Fin 0 → Fin S1.rank)

variable [Facts]

def fn {F : FTy → Type} [FloatOps F] (main_arg0 : FVec F S4096x64 .f32) (main_arg1 : FVec F S4096x64 .f32) (main_arg2 : FVec F S4096x64 .f32) (main_arg3 : IVec S5 32) (main_arg4 : FVec F S64x64 .f32) : IVec S4096x64 1 × IVec S4096x64 1 × IVec S4096x64 1 × IVec S4 1 × IVec S1 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_v3 : FVec F S4096x64 .f32 := Host.absf main_arg1
  let main_cst_0 : FVec F S_ .f32 := constant S_ .f32 0x7F800000#32
  let main_v4 : FVec F S4096x64 .f32 := broadcastInDim S4096x64 ![] bcast_S_S4096x64 main_cst_0
  let main_v5 : IVec S4096x64 1 := cmpf .olt main_v3 main_v4
  let main_v6 : FVec F S4096x64 .f32 := Host.absf main_arg2
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : IVec S4 32 := (extractStridedSlice S4 ![0] · slices_S5_S4_0) main_arg3
  let main_v10 : IVec S4 32 := (extractStridedSlice S4 ![1] · slices_S5_S4_1) main_arg3
  let main_v11 : IVec S4 1 := cmpi .sle main_v9 main_v10
  let main_v12 : IVec S1 32 := (extractStridedSlice S1 ![0] · slices_S5_S1_0) main_arg3
  let main_c : IVec S_ 32 := constantI S_ 32 0#32
  let main_v13 : IVec S1 32 := broadcastInDim S1 ![] bcast_S_S1 main_c
  let main_v14 : IVec S1 1 := cmpi .sge main_v12 main_v13
  (main_v2, main_v5, main_v8, main_v11, main_v14)
-- ==== Kernel.lean ====
abbrev S4096x64 : Shape := ⟨2, ![4096, 64]⟩
abbrev S5 : Shape := ⟨1, ![5]⟩
abbrev S64x64 : Shape := ⟨2, ![64, 64]⟩
abbrev S1024x64 : Shape := ⟨2, ![1024, 64]⟩
abbrev S256x1 : Shape := ⟨2, ![256, 1]⟩
abbrev S1x256 : Shape := ⟨2, ![1, 256]⟩
abbrev S256x256 : Shape := ⟨2, ![256, 256]⟩
abbrev S256x64 : Shape := ⟨2, ![256, 64]⟩
abbrev S1 : Shape := ⟨1, ![1]⟩

abbrev nBuf : Space → Nat
  | .hbm => 9
  | .vmem => 10
  | .smem => 1
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S64x64, .f32⟩
  | .hbm, ⟨4, _⟩ => ⟨S4096x64, .bf16⟩
  | .hbm, ⟨5, _⟩ => ⟨S4096x64, .bf16⟩
  | .hbm, ⟨6, _⟩ => ⟨S4096x64, .bf16⟩
  | .hbm, ⟨7, _⟩ => ⟨S64x64, .bf16⟩
  | .hbm, ⟨8, _⟩ => ⟨S4096x64, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x64, .bf16⟩
  | .local _ .vmem, ⟨5, _⟩ => ⟨S1024x64, .bf16⟩
  | .local _ .vmem, ⟨6, _⟩ => ⟨S64x64, .bf16⟩
  | .local _ .vmem, ⟨7, _⟩ => ⟨S1024x64, .f32⟩
  | .local _ .vmem, ⟨8, _⟩ => ⟨S1024x64, .f32⟩
  | .local _ .vmem, ⟨9, _⟩ => ⟨S64x64, .f32⟩
  | .local _ .smem, ⟨0, _⟩ => ⟨S5, .i32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x64 : Shape := ⟨2, ![4096, 64]⟩
abbrev S5 : Shape := ⟨1, ![5]⟩
abbrev S64x64 : Shape := ⟨2, ![64, 64]⟩
abbrev S4096x64x1 : Shape := ⟨3, ![4096, 64, 1]⟩
abbrev S4096x1x64 : Shape := ⟨3, ![4096, 1, 64]⟩
abbrev S4096x64x64 : Shape := ⟨3, ![4096, 64, 64]⟩
abbrev S_ : Shape := ⟨0, ![]⟩
abbrev S1x64x64 : Shape := ⟨3, ![1, 64, 64]⟩
abbrev S4097x64x64 : Shape := ⟨3, ![4097, 64, 64]⟩
abbrev S4096 : Shape := ⟨1, ![4096]⟩
abbrev S1x5 : Shape := ⟨2, ![1, 5]⟩
abbrev S4096x1 : Shape := ⟨2, ![4096, 1]⟩
abbrev S4096x5 : Shape := ⟨2, ![4096, 5]⟩

abbrev nBuf : Space → Nat
  | .hbm => 83
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S5, .i32⟩
  | .hbm, ⟨4, _⟩ => ⟨S64x64, .f32⟩
  | .hbm, ⟨5, _⟩ => ⟨S4096x64x1, .f32⟩
  | .hbm, ⟨6, _⟩ => ⟨S4096x1x64, .f32⟩
  | .hbm, ⟨7, _⟩ => ⟨S4096x64x64, .f32⟩
  | .hbm, ⟨8, _⟩ => ⟨S4096x64x64, .f32⟩
  | .hbm, ⟨9, _⟩ => ⟨S4096x64x64, .f32⟩
  | .hbm, ⟨10, _⟩ => ⟨S_, .f32⟩
  | .hbm, ⟨11, _⟩ => ⟨S_, .f32⟩
  | .hbm, ⟨12, _⟩ => ⟨S4096x64x64, .f32⟩
  | .hbm, ⟨13, _⟩ => ⟨S_, .f32⟩
  | .hbm, ⟨14, _⟩ => ⟨S1x64x64, .f32⟩
  | .hbm, ⟨15, _⟩ => ⟨S4097x64x64, .f32⟩
  | .hbm, ⟨16, _⟩ => ⟨S4096, .i32⟩
  | .hbm, ⟨17, _⟩ => ⟨S1x5, .i32⟩
  | .hbm, ⟨18, _⟩ => ⟨S4096x1, .i32⟩
  | .hbm, ⟨19, _⟩ => ⟨S4096x5, .i32⟩
  | .hbm, ⟨20, _⟩ => ⟨S4096x5, .i32⟩
  | .hbm, ⟨21, _⟩ => ⟨S4096x5, .i1⟩
  | .hbm, ⟨22, _⟩ => ⟨S4096x5, .i32⟩
  | .hbm, ⟨23, _⟩ => ⟨S_, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S4096, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096, .i32⟩
  | .hbm, ⟨52, _⟩ => ⟨S1x64x64, .f32⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096x64x64, .f32⟩
  | .hbm, ⟨65, _⟩ => ⟨S4096x64x64, .f32⟩
  | .hbm, ⟨66, _⟩ => ⟨S4096x64x64, .f32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096x1, .i32⟩
  | .hbm, ⟨75, _⟩ => ⟨S4096x64x64, .f32⟩
  | .hbm, ⟨76, _⟩ => ⟨S4096x64x64, .f32⟩
  | .hbm, ⟨77, _⟩ => ⟨S4096x64, .f32⟩
  | .hbm, ⟨78, _⟩ => ⟨S4096x1, .i1⟩
  | .hbm, ⟨79, _⟩ => ⟨S_, .f32⟩
  | .hbm, ⟨80, _⟩ => ⟨S4096x64, .f32⟩
  | .hbm, ⟨81, _⟩ => ⟨S4096x64, .i1⟩
  | .hbm, ⟨82, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_call2_v0 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Proof.Chunk.lean ====
module

public import proofs.«01_k».proof.Proof.Gen.KernelIdeal.Frame
public import Idealize.ShloMosaic.Lib.Pipeline.Value
public import Idealize.ShloMosaic.Lib.Pointwise
public import Idealize.ShloMosaic.Lib.Tactic

/-! One chunk of 256 rows of the kernel's body, as functions of the values it reads, and the statement that a block of
four chunks leaves exactly these functions' values in its output and in the carried state. -/

@[expose] public section

set_option maxRecDepth 16384

noncomputable section

namespace Cert.KernelIdeal.LA

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The row numbers of a chunk whose first row is `b`. -/
def rowsOf (b : BitVec 32) : IVec S256x1 32 :=
  addi (broadcast S256x1 b) (iota .tc S256x1 32 [0] iota_S256x1_d0_w32)

/-- The first row of the segment of a row number `r`: the last of the four segment starts that is not after `r`. -/
def startWord (w : Fin 5 → BitVec 32) (r : BitVec 32) : BitVec 32 :=
  Scalar.select (Scalar.cmpi .sge r (w 3)) (w 3) (Scalar.select (Scalar.cmpi .sge r (w 2)) (w 2)
    (Scalar.select (Scalar.cmpi .sge r (w 1)) (w 1) (w 0)))

/-- The segment starts of a chunk's rows. -/
def startsOf (w : Fin 5 → BitVec 32) (b : BitVec 32) : IVec S256x1 32 :=
  select (cmpi .sge (rowsOf b) (broadcast S256x1 (w 3))) (broadcast S256x1 (w 3))
    (select (cmpi .sge (rowsOf b) (broadcast S256x1 (w 2))) (broadcast S256x1 (w 2))
      (select (cmpi .sge (rowsOf b) (broadcast S256x1 (w 1))) (broadcast S256x1 (w 1)) (broadcast S256x1 (w 0))))

/-- A chunk's output rows, from the state before it, its rows of the three operands and the first product. -/
def chunkOut (w : Fin 5 → BitVec 32) (b : BitVec 32) (st : FVec F S64x64 .f32) (q k v : FVec F S256x64 .bf16)
    (p : FVec F S256x64 .f32) : FVec F S256x64 .f32 :=
  mulf (broadcastTo S256x64 (sitofp .f32 (extui 32 (andi (cmpi .sge (rowsOf b) (broadcast S256x1 (w 0)))
      (cmpi .slt (rowsOf b) (broadcast S256x1 (w 4)))) natLt_1_32) : FVec F S256x1 .f32) broadcasts_S256x1_S256x64)
    (addf (addf p (mulf (broadcastTo S256x64 (sitofp .f32 (extui 32 (cmpi .slt (startsOf w b) (broadcast S256x1 b))
        natLt_1_32) : FVec F S256x1 .f32) broadcasts_S256x1_S256x64)
        (matmul dot_S256x64_S64x64_S256x64_1_0_0_1_n_n none q (truncf .bf16 st bitsLt_bf16_f32)
          (constant S256x64 .f32 0x00000000#32))))
      (matmul dot_S256x256_S256x64_S256x64_1_0_0_1_n_n none
        (truncf .bf16 (select (andi k0_pay2 (cmpi .sge
            (broadcastTo S256x256 (iota .tc S1x256 32 [1] iota_S1x256_d1_w32) broadcasts_S1x256_S256x256)
            (broadcastTo S256x256 (subi (startsOf w b) (broadcast S256x1 b)) broadcasts_S256x1_S256x256)))
          (matmul dot_S256x64_S256x64_S256x256_1_1_0_0_n_n none q k (constant S256x256 .f32 0x00000000#32))
          (broadcast S256x256 (Scalar.ofBits .f32 0x00000000#32 : F .f32))) bitsLt_bf16_f32)
        v (constant S256x64 .f32 0x00000000#32)))

/-- The state after a chunk, from the state before it and the chunk's rows of the second and third operand. -/
def chunkState (w : Fin 5 → BitVec 32) (b : BitVec 32) (st : FVec F S64x64 .f32) (k v : FVec F S256x64 .bf16) :
    FVec F S64x64 .f32 :=
  addf (mulf (broadcast S64x64 (Scalar.sitofp .f32 (Scalar.extui
      (Scalar.cmpi .slt (startWord w (Scalar.subi (Scalar.addi b 256#32) 1#32)) b)) : F .f32)) st)
    (matmul dot_S256x64_S256x64_S64x64_0_0_1_1_n_n none
      (mulf k (broadcastTo S256x64 (truncf .bf16 (sitofp .f32 (extui 32 (cmpi .sge (rowsOf b)
        (broadcast S256x1 (startWord w (Scalar.subi (Scalar.addi b 256#32) 1#32)))) natLt_1_32) : FVec F S256x1 .f32)
        bitsLt_bf16_f32) broadcasts_S256x1_S256x64))
      v (constant S64x64 .f32 0x00000000#32))

/-- The 256 rows of chunk `j` of a block of 1024 rows. -/
def piece {α : Type} (x : S1024x64.Idx → α) (j : ℕ) : S256x64.Idx → α :=
  fun y => x (ix2 ⟨(256 * j + (y 0).val) % 1024, Nat.mod_lt _ (by decide)⟩ (y 1))

/-- The first row of chunk `j` of block `i`. -/
def base (i : grid0.Coords) (j : ℕ) : BitVec 32 :=
  Scalar.addi (Scalar.muli (BitVec.ofNat 32 (i 0).val) 1024#32) (BitVec.ofNat 32 (256 * j))

/-- The state before chunk `j` of block `i`, from the state before the block. -/
def stateAt (w : Fin 5 → BitVec 32) (i : grid0.Coords) (st : FVec F S64x64 .f32) (k v : Vec F S1024x64 .bf16) :
    ℕ → FVec F S64x64 .f32
  | 0 => st
  | j + 1 => chunkState w (base i j) (stateAt w i st k v j) (piece k j) (piece v j)

/-- The block's output rows. -/
def blockOut (w : Fin 5 → BitVec 32) (i : grid0.Coords) (st : FVec F S64x64 .f32) (q k v : Vec F S1024x64 .bf16)
    (m0 : Vec F S64x64 .bf16) : Vec F S1024x64 .f32 :=
  fun y => chunkOut w (base i ((y 0).val / 256)) (stateAt w i st k v ((y 0).val / 256)) (piece q ((y 0).val / 256))
    (piece k ((y 0).val / 256)) (piece v ((y 0).val / 256)) (piece (k0_pay3 q m0) ((y 0).val / 256))
    (ix2 ⟨(y 0).val % 256, Nat.mod_lt _ (by decide)⟩ (y 1))

/-- The block's output at a row of chunk `j`. -/
theorem blockOut_at (w : Fin 5 → BitVec 32) (i : grid0.Coords) (st : FVec F S64x64 .f32) (q k v : Vec F S1024x64 .bf16)
    (m0 : Vec F S64x64 .bf16) (j : ℕ) (x : S256x64.Idx) (y : S1024x64.Idx) (h0 : (y 0).val = 256 * j + (x 0).val)
    (h1 : (y 1).val = (x 1).val) :
    blockOut w i st q k v m0 y = chunkOut w (base i j) (stateAt w i st k v j) (piece q j) (piece k j) (piece v j)
      (piece (k0_pay3 q m0) j) x := by
  have hx : (x 0).val < 256 := (x 0).isLt
  have hj : (y 0).val / 256 = j := by omega
  have hy : (ix2 ⟨(y 0).val % 256, Nat.mod_lt _ (by decide)⟩ (y 1) : S256x64.Idx) = x := by
    funext a
    apply Fin.ext
    match a with
    | ⟨0, _⟩ => show (y 0).val % 256 = (x 0).val; omega
    | ⟨1, _⟩ => exact h1
  unfold blockOut
  rw [hj, hy]

/-- The five words of the table a block reads. -/
def tw (c : Dev nD) (xt : TbBuf0 (F := F) c tbM0_0) (p : Fin 5) : BitVec 32 :=
  View.read (Elt F) (View.whole main_arg3) xt (ix1 p)

theorem ld_tw (c : Dev nD) (xt : TbBuf0 (F := F) c tbM0_0) (p : ℕ) (hp : p < 5) (h) (y) :
    View.ld (View.read (Elt F) (View.whole main_arg3) xt) (Rect.unit (s := S5) ![p] ![1] h) y = tw c xt ⟨p, hp⟩ := by
  change View.read (Elt F) (View.whole main_arg3) xt _ = View.read (Elt F) (View.whole main_arg3) xt _
  congr 1
  funext a
  apply Fin.ext
  match a with
  | ⟨0, _⟩ =>
    have : (y 0).val < 1 := (y 0).isLt
    show p + 1 * (y 0).val = p
    omega

theorem ld_tw0 (c : Dev nD) (xt : TbBuf0 (F := F) c tbM0_0) (h) (y) : View.ld (View.read (Elt F) (View.whole main_arg3) xt)
    (Rect.unit (s := S5) ![0] ![1] h) y = tw c xt 0 := ld_tw c xt 0 (by decide) h y
theorem ld_tw1 (c : Dev nD) (xt : TbBuf0 (F := F) c tbM0_0) (h) (y) : View.ld (View.read (Elt F) (View.whole main_arg3) xt)
    (Rect.unit (s := S5) ![1] ![1] h) y = tw c xt 1 := ld_tw c xt 1 (by decide) h y
theorem ld_tw2 (c : Dev nD) (xt : TbBuf0 (F := F) c tbM0_0) (h) (y) : View.ld (View.read (Elt F) (View.whole main_arg3) xt)
    (Rect.unit (s := S5) ![2] ![1] h) y = tw c xt 2 := ld_tw c xt 2 (by decide) h y
theorem ld_tw3 (c : Dev nD) (xt : TbBuf0 (F := F) c tbM0_0) (h) (y) : View.ld (View.read (Elt F) (View.whole main_arg3) xt)
    (Rect.unit (s := S5) ![3] ![1] h) y = tw c xt 3 := ld_tw c xt 3 (by decide) h y
theorem ld_tw4 (c : Dev nD) (xt : TbBuf0 (F := F) c tbM0_0) (h) (y) : View.ld (View.read (Elt F) (View.whole main_arg3) xt)
    (Rect.unit (s := S5) ![4] ![1] h) y = tw c xt 4 := ld_tw c xt 4 (by decide) h y

theorem shapeCast_self {α : Type} (x : S256x64.Idx → α) (h) : shapeCast S256x64 x h = x := by
  funext y; pointwise

theorem shapeCast_self64 {α : Type} (x : S64x64.Idx → α) (h) : shapeCast S64x64 x h = x := by
  funext y; pointwise

theorem piece_ld (x : Vec F S1024x64 .bf16) (j : ℕ) (hj : j < 4) (o : ℕ) (ho : o = 256 * j) (h) :
    View.ld x (Rect.unit (s := S1024x64) ![o, 0] ![256, 64] h) = piece x j := by
  subst ho
  funext y
  change x _ = x _
  congr 1
  have h0 : (y 0).val < 256 := (y 0).isLt
  funext a
  apply Fin.ext
  match a with
  | ⟨0, _⟩ => show 256 * j + 1 * (y 0).val = (256 * j + (y 0).val) % 1024; omega
  | ⟨1, _⟩ => show 0 + 1 * (y 1).val = (y 1).val; omega

theorem piece_slice {α : Type} (x : S1024x64.Idx → α) (j : ℕ) (hj : j < 4) (o : ℕ) (ho : o = 256 * j) (h) :
    extractStridedSlice S256x64 ![o, 0] x h = piece x j := by
  subst ho
  funext y
  change x _ = x _
  congr 1
  have h0 : (y 0).val < 256 := (y 0).isLt
  funext a
  apply Fin.ext
  match a with
  | ⟨0, _⟩ => show 256 * j + (y 0).val = (256 * j + (y 0).val) % 1024; omega
  | ⟨1, _⟩ => show 0 + (y 1).val = (y 1).val; omega

section Payloads
variable (w : Fin 5 → BitVec 32) (i : grid0.Coords) (st : FVec F S64x64 .f32) (q k v : Vec F S256x64 .bf16)
  (m : FVec F S1024x64 .f32)

theorem state0 : k0_pay11 st (Scalar.addi (Scalar.muli (BitVec.ofNat 32 (i 0).val) 1024#32) 0#32) (k0_pay5 k) (k0_pay6 v) (k0_pay7 i)
    (Scalar.subi (Scalar.addi (Scalar.addi (Scalar.muli (BitVec.ofNat 32 (i 0).val) 1024#32) 0#32) 256#32) 1#32) (w 0) (w 1) (w 1) (w 2) (w 2) (w 3) (w 3)
    = chunkState w (Scalar.addi (Scalar.muli (BitVec.ofNat 32 (i 0).val) 1024#32) 0#32) st k v := by
  unfold k0_pay11 k0_pay5 k0_pay6
  simp only [shapeCast_self]
  rfl

theorem state1 : k0_pay18 st (Scalar.addi (Scalar.muli (BitVec.ofNat 32 (i 0).val) 1024#32) 256#32) (k0_pay13 k) (k0_pay14 v) (k0_pay15 (Scalar.muli (BitVec.ofNat 32 (i 0).val) 1024#32) (iota .tc S256x1 32 [0] iota_S256x1_d0_w32))
    (Scalar.addi (Scalar.addi (Scalar.muli (BitVec.ofNat 32 (i 0).val) 1024#32) 256#32) 256#32) (w 0) (w 1) (w 1) (w 2) (w 2) (w 3) (w 3)
    = chunkState w (Scalar.addi (Scalar.muli (BitVec.ofNat 32 (i 0).val) 1024#32) 256#32) st k v := by
  unfold k0_pay18 k0_pay13 k0_pay14
  simp only [shapeCast_self]
  rfl

theorem state2 : k0_pay26 st (Scalar.addi (Scalar.muli (BitVec.ofNat 32 (i 0).val) 1024#32) 512#32) (k0_pay20 k) (k0_pay21 v) (k0_pay22 (Scalar.muli (BitVec.ofNat 32 (i 0).val) 1024#32) (iota .tc S256x1 32 [0] iota_S256x1_d0_w32)) (w 0) (w 1) (w 1) (w 2) (w 2) (w 3) (w 3)
    = chunkState w (Scalar.addi (Scalar.muli (BitVec.ofNat 32 (i 0).val) 1024#32) 512#32) st k v := by
  unfold k0_pay26 k0_pay20 k0_pay21
  simp only [shapeCast_self]
  rfl

theorem state3 : k0_pay37 st (Scalar.addi (Scalar.muli (BitVec.ofNat 32 (i 0).val) 1024#32) 768#32) (k0_pay28 k) (k0_pay29 v) (k0_pay30 (Scalar.muli (BitVec.ofNat 32 (i 0).val) 1024#32) (iota .tc S256x1 32 [0] iota_S256x1_d0_w32)) (w 0) (w 1) (w 1) (w 2) (w 2) (w 3) (w 3)
    = chunkState w (Scalar.addi (Scalar.muli (BitVec.ofNat 32 (i 0).val) 1024#32) 768#32) st k v := by
  unfold k0_pay37 k0_pay28 k0_pay29
  simp only [shapeCast_self, shapeCast_self64]
  rfl

theorem out0 : k0_pay10 (iota .tc S1x256 32 [1] iota_S1x256_d1_w32) k0_pay2 m st (Scalar.addi (Scalar.muli (BitVec.ofNat 32 (i 0).val) 1024#32) 0#32) (k0_pay4 q) (k0_pay5 k) (k0_pay6 v) (k0_pay7 i)
    (k0_pay8 (F := F) i (w 0) (w 1) (w 1)) (k0_pay9 (F := F) i (w 2)) (w 2) (w 3) (w 3) (w 0) (w 4)
    = chunkOut w (Scalar.addi (Scalar.muli (BitVec.ofNat 32 (i 0).val) 1024#32) 0#32) st q k v (piece m 0) := by
  unfold k0_pay10 k0_pay4 k0_pay5 k0_pay6
  simp only [shapeCast_self, piece_slice _ 0 (by decide) 0 rfl]
  rfl

theorem out1 : k0_pay17 (iota .tc S1x256 32 [1] iota_S1x256_d1_w32) k0_pay2 m st (Scalar.addi (Scalar.muli (BitVec.ofNat 32 (i 0).val) 1024#32) 256#32) (k0_pay12 q) (k0_pay13 k) (k0_pay14 v) (k0_pay15 (Scalar.muli (BitVec.ofNat 32 (i 0).val) 1024#32) (iota .tc S256x1 32 [0] iota_S256x1_d0_w32))
    (k0_pay16 (F := F) (Scalar.muli (BitVec.ofNat 32 (i 0).val) 1024#32) (iota .tc S256x1 32 [0] iota_S256x1_d0_w32) (w 0) (w 1) (w 1)) (w 2) (w 2) (w 3) (w 3) (w 0) (w 4)
    = chunkOut w (Scalar.addi (Scalar.muli (BitVec.ofNat 32 (i 0).val) 1024#32) 256#32) st q k v (piece m 1) := by
  unfold k0_pay17 k0_pay12 k0_pay13 k0_pay14
  simp only [shapeCast_self, piece_slice _ 1 (by decide) 256 rfl]
  rfl

theorem out2 : k0_pay25 (iota .tc S1x256 32 [1] iota_S1x256_d1_w32) k0_pay2 m st (Scalar.addi (Scalar.muli (BitVec.ofNat 32 (i 0).val) 1024#32) 512#32) (k0_pay19 q) (k0_pay20 k) (k0_pay21 v) (k0_pay22 (Scalar.muli (BitVec.ofNat 32 (i 0).val) 1024#32) (iota .tc S256x1 32 [0] iota_S256x1_d0_w32))
    (k0_pay23 (F := F) (w 0)) (k0_pay24 (F := F) (Scalar.muli (BitVec.ofNat 32 (i 0).val) 1024#32) (iota .tc S256x1 32 [0] iota_S256x1_d0_w32) (w 1)) (w 1) (w 2) (w 2) (w 3) (w 3) (w 0) (w 4)
    = chunkOut w (Scalar.addi (Scalar.muli (BitVec.ofNat 32 (i 0).val) 1024#32) 512#32) st q k v (piece m 2) := by
  unfold k0_pay25 k0_pay19 k0_pay20 k0_pay21
  simp only [shapeCast_self, piece_slice _ 2 (by decide) 512 rfl]
  rfl

theorem out3 : k0_pay36 (k0_pay32 (k0_pay30 (Scalar.muli (BitVec.ofNat 32 (i 0).val) 1024#32) (iota .tc S256x1 32 [0] iota_S256x1_d0_w32)) (w 0) (w 4))
    (k0_pay33 (iota .tc S1x256 32 [1] iota_S1x256_d1_w32) k0_pay2 (Scalar.addi (Scalar.muli (BitVec.ofNat 32 (i 0).val) 1024#32) 768#32) (k0_pay27 q) (k0_pay28 k) (k0_pay29 v) (k0_pay30 (Scalar.muli (BitVec.ofNat 32 (i 0).val) 1024#32) (iota .tc S256x1 32 [0] iota_S256x1_d0_w32)) (w 0) (w 1) (w 1) (w 2) (w 2) (w 3) (w 3))
    (k0_pay34 m) (k0_pay35 st (Scalar.addi (Scalar.muli (BitVec.ofNat 32 (i 0).val) 1024#32) 768#32) (k0_pay27 q) (k0_pay30 (Scalar.muli (BitVec.ofNat 32 (i 0).val) 1024#32) (iota .tc S256x1 32 [0] iota_S256x1_d0_w32)) (w 0) (w 1) (w 1) (w 2) (w 2) (w 3) (w 3))
    = chunkOut w (Scalar.addi (Scalar.muli (BitVec.ofNat 32 (i 0).val) 1024#32) 768#32) st q k v (piece m 3) := by
  unfold k0_pay36 k0_pay33 k0_pay34 k0_pay35 k0_pay27 k0_pay28 k0_pay29
  simp only [shapeCast_self, piece_slice _ 3 (by decide) 768 rfl]
  rfl

variable (K V : Vec F S1024x64 .bf16)

theorem stateN1 : (k0_pay11 st (Scalar.addi (Scalar.muli (BitVec.ofNat 32 (i 0).val) 1024#32) 0#32) (k0_pay5 (piece K 0)) (k0_pay6 (piece V 0)) (k0_pay7 i)
    (Scalar.subi (Scalar.addi (Scalar.addi (Scalar.muli (BitVec.ofNat 32 (i 0).val) 1024#32) 0#32) 256#32) 1#32) (w 0) (w 1) (w 1) (w 2) (w 2) (w 3) (w 3)) = stateAt w i st K V 1 :=
  state0 w i st (piece K 0) (piece V 0)

theorem stateN2 : (k0_pay18 (k0_pay11 st (Scalar.addi (Scalar.muli (BitVec.ofNat 32 (i 0).val) 1024#32) 0#32) (k0_pay5 (piece K 0)) (k0_pay6 (piece V 0)) (k0_pay7 i)
    (Scalar.subi (Scalar.addi (Scalar.addi (Scalar.muli (BitVec.ofNat 32 (i 0).val) 1024#32) 0#32) 256#32) 1#32) (w 0) (w 1) (w 1) (w 2) (w 2) (w 3) (w 3)) (Scalar.addi (Scalar.muli (BitVec.ofNat 32 (i 0).val) 1024#32) 256#32) (k0_pay13 (piece K 1)) (k0_pay14 (piece V 1)) (k0_pay15 (Scalar.muli (BitVec.ofNat 32 (i 0).val) 1024#32) (iota .tc S256x1 32 [0] iota_S256x1_d0_w32))
    (Scalar.addi (Scalar.addi (Scalar.muli (BitVec.ofNat 32 (i 0).val) 1024#32) 256#32) 256#32) (w 0) (w 1) (w 1) (w 2) (w 2) (w 3) (w 3)) = stateAt w i st K V 2 :=
  (state1 w i _ (piece K 1) (piece V 1)).trans
    (congrArg (fun s => chunkState w (Scalar.addi (Scalar.muli (BitVec.ofNat 32 (i 0).val) 1024#32) 256#32) s (piece K 1) (piece V 1)) (stateN1 w i st K V))

theorem stateN3 : (k0_pay26 (k0_pay18 (k0_pay11 st (Scalar.addi (Scalar.muli (BitVec.ofNat 32 (i 0).val) 1024#32) 0#32) (k0_pay5 (piece K 0)) (k0_pay6 (piece V 0)) (k0_pay7 i)
    (Scalar.subi (Scalar.addi (Scalar.addi (Scalar.muli (BitVec.ofNat 32 (i 0).val) 1024#32) 0#32) 256#32) 1#32) (w 0) (w 1) (w 1) (w 2) (w 2) (w 3) (w 3)) (Scalar.addi (Scalar.muli (BitVec.ofNat 32 (i 0).val) 1024#32) 256#32) (k0_pay13 (piece K 1)) (k0_pay14 (piece V 1)) (k0_pay15 (Scalar.muli (BitVec.ofNat 32 (i 0).val) 1024#32) (iota .tc S256x1 32 [0] iota_S256x1_d0_w32))
    (Scalar.addi (Scalar.addi (Scalar.muli (BitVec.ofNat 32 (i 0).val) 1024#32) 256#32) 256#32) (w 0) (w 1) (w 1) (w 2) (w 2) (w 3) (w 3)) (Scalar.addi (Scalar.muli (BitVec.ofNat 32 (i 0).val) 1024#32) 512#32) (k0_pay20 (piece K 2)) (k0_pay21 (piece V 2)) (k0_pay22 (Scalar.muli (BitVec.ofNat 32 (i 0).val) 1024#32) (iota .tc S256x1 32 [0] iota_S256x1_d0_w32)) (w 0) (w 1) (w 1) (w 2) (w 2) (w 3) (w 3)) = stateAt w i st K V 3 :=
  (state2 w i _ (piece K 2) (piece V 2)).trans
    (congrArg (fun s => chunkState w (Scalar.addi (Scalar.muli (BitVec.ofNat 32 (i 0).val) 1024#32) 512#32) s (piece K 2) (piece V 2)) (stateN2 w i st K V))

theorem stateN4 : (k0_pay37 (k0_pay26 (k0_pay18 (k0_pay11 st (Scalar.addi (Scalar.muli (BitVec.ofNat 32 (i 0).val) 1024#32) 0#32) (k0_pay5 (piece K 0)) (k0_pay6 (piece V 0)) (k0_pay7 i)
    (Scalar.subi (Scalar.addi (Scalar.addi (Scalar.muli (BitVec.ofNat 32 (i 0).val) 1024#32) 0#32) 256#32) 1#32) (w 0) (w 1) (w 1) (w 2) (w 2) (w 3) (w 3)) (Scalar.addi (Scalar.muli (BitVec.ofNat 32 (i 0).val) 1024#32) 256#32) (k0_pay13 (piece K 1)) (k0_pay14 (piece V 1)) (k0_pay15 (Scalar.muli (BitVec.ofNat 32 (i 0).val) 1024#32) (iota .tc S256x1 32 [0] iota_S256x1_d0_w32))
    (Scalar.addi (Scalar.addi (Scalar.muli (BitVec.ofNat 32 (i 0).val) 1024#32) 256#32) 256#32) (w 0) (w 1) (w 1) (w 2) (w 2) (w 3) (w 3)) (Scalar.addi (Scalar.muli (BitVec.ofNat 32 (i 0).val) 1024#32) 512#32) (k0_pay20 (piece K 2)) (k0_pay21 (piece V 2)) (k0_pay22 (Scalar.muli (BitVec.ofNat 32 (i 0).val) 1024#32) (iota .tc S256x1 32 [0] iota_S256x1_d0_w32)) (w 0) (w 1) (w 1) (w 2) (w 2) (w 3) (w 3)) (Scalar.addi (Scalar.muli (BitVec.ofNat 32 (i 0).val) 1024#32) 768#32) (k0_pay28 (piece K 3)) (k0_pay29 (piece V 3)) (k0_pay30 (Scalar.muli (BitVec.ofNat 32 (i 0).val) 1024#32) (iota .tc S256x1 32 [0] iota_S256x1_d0_w32)) (w 0) (w 1) (w 1) (w 2) (w 2) (w 3) (w 3)) = stateAt w i st K V 4 :=
  (state3 w i _ (piece K 3) (piece V 3)).trans
    (congrArg (fun s => chunkState w (Scalar.addi (Scalar.muli (BitVec.ofNat 32 (i 0).val) 1024#32) 768#32) s (piece K 3) (piece V 3)) (stateN3 w i st K V))

end Payloads

variable (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S64x64 .bf16) (harg5 : arg5.IsWhole) (arg6 : Memref sig .tc .vmem S1024x64 .f32) (harg6 : arg6.IsWhole) (arg7 : Memref sig .tc .vmem S64x64 .f32) (harg7 : arg7.IsWhole)
    (x0 x1 x2 : Vec F S1024x64 .bf16) (x3 : Vec F S64x64 .bf16) (xt0 : TbBuf0 (F := F) c tbM0_0) (xs0 : Vec F S64x64 .f32)

/-- At a block after the first, the carried state ends as the state after the block's four chunks. -/
theorem sout_B (hc0 : ¬cond0_0 i) :
    sout0_B_0 c i arg2 harg2 arg3 harg3 arg4 harg4 arg5 harg5 arg6 harg6 arg7 harg7 hc0 x0 x1 x2 x3 xt0 xs0
      = stateAt (tw c xt0) i xs0 x1 x2 4 := by
  unfold sout0_B_0
  rw [View.read_writes_eq_canon _ _ _ (scover0_B_0 c i arg2 harg2 arg3 harg3 arg4 harg4 arg5 harg5 arg6 harg6 arg7 harg7 hc0 x0 x1 x2 x3 xt0 xs0)]
  unfold kernelRun0_B
  dsimp only
  rw [View.canon_unit_zero hz]
  sl_unfold_words
  simp only [View.readAt_eq_ld, harg2.read_unread, harg3.read_unread, harg4.read_unread, harg5.read_unread, harg7.read_unread, View.ld_unit_zero (S := S64x64) hz, View.ld_unit_zero (S := S1024x64) hz]
  simp only [ld_tw0, ld_tw1, ld_tw2, ld_tw3, ld_tw4, piece_ld _ 0 (by decide) 0 rfl, piece_ld _ 1 (by decide) 256 rfl,
    piece_ld _ 2 (by decide) 512 rfl, piece_ld _ 3 (by decide) 768 rfl]
  exact stateN4 (tw c xt0) i _ x1 x2

/-- At the first block, the carried state ends as the state after the block's four chunks from the zero state. -/
theorem sout_A (hc0 : cond0_0 i) :
    sout0_A_0 c i arg2 harg2 arg3 harg3 arg4 harg4 arg5 harg5 arg6 harg6 arg7 harg7 hc0 x0 x1 x2 x3 xt0
      = stateAt (tw c xt0) i k0_pay1 x1 x2 4 := by
  unfold sout0_A_0
  rw [View.read_writes_eq_canon _ _ _ (scover0_A_0 c i arg2 harg2 arg3 harg3 arg4 harg4 arg5 harg5 arg6 harg6 arg7 harg7 hc0 x0 x1 x2 x3 xt0)]
  unfold kernelRun0_A
  dsimp only
  rw [View.canon_cons_unit_zero (S := S64x64) hz]
  sl_unfold_words
  simp only [View.readAt_eq_ld, harg2.read_unread, harg3.read_unread, harg4.read_unread, harg5.read_unread, harg7.read_unread, View.ld_unit_zero (S := S64x64) hz, View.ld_unit_zero (S := S1024x64) hz, View.readCov_unit_zero (S := S64x64) _ hz]
  simp only [ld_tw0, ld_tw1, ld_tw2, ld_tw3, ld_tw4, piece_ld _ 0 (by decide) 0 rfl, piece_ld _ 1 (by decide) 256 rfl,
    piece_ld _ 2 (by decide) 512 rfl, piece_ld _ 3 (by decide) 768 rfl]
  exact stateN4 (tw c xt0) i _ x1 x2

/-- At a block after the first, the output's rows are the four chunks' rows. -/
theorem out_B (hc0 : ¬cond0_0 i) :
    out0_B_4 c i arg2 harg2 arg3 harg3 arg4 harg4 arg5 harg5 arg6 harg6 arg7 harg7 hc0 x0 x1 x2 x3 xt0 xs0
      = blockOut (tw c xt0) i xs0 x0 x1 x2 x3 := by
  funext y
  have hcov := cover0_B_4 c i arg2 harg2 arg3 harg3 arg4 harg4 arg5 harg5 arg6 harg6 arg7 harg7 hc0 x0 x1 x2 x3 xt0 xs0 y
  unfold out0_B_4
  refine View.read_writes_apply_of_pieces VO0_4 VO0_4.junk (blockOut (tw c xt0) i xs0 x0 x1 x2 x3) _ ?_ y hcov
  clear hcov
  unfold kernelRun0_B
  dsimp only
  sl_unfold_words
  simp only [View.readAt_eq_ld, harg2.read_unread, harg3.read_unread, harg4.read_unread, harg5.read_unread, harg7.read_unread, View.ld_unit_zero (S := S64x64) hz, View.ld_unit_zero (S := S1024x64) hz]
  simp only [ld_tw0, ld_tw1, ld_tw2, ld_tw3, ld_tw4, piece_ld _ 0 (by decide) 0 rfl, piece_ld _ 1 (by decide) 256 rfl,
    piece_ld _ 2 (by decide) 512 rfl, piece_ld _ 3 (by decide) 768 rfl]
  intro p hp x
  simp only [List.mem_cons, List.not_mem_nil, or_false] at hp
  rcases hp with rfl | rfl | rfl | rfl
  · refine (congrFun ((out3 (tw c xt0) i _ (piece x0 3) (piece x1 3) (piece x2 3) (k0_pay3 x0 x3)).trans
      (congrArg (fun s => chunkOut _ _ s _ _ _ _) (stateN3 (tw c xt0) i xs0 x1 x2))) x).trans ?_
    exact (blockOut_at _ _ _ _ _ _ _ 3 x _ (by show 768 + 1 * (x 0).val = 256 * 3 + (x 0).val; omega) (by show 0 + 1 * (x 1).val = (x 1).val; omega)).symm
  · refine (congrFun ((out2 (tw c xt0) i _ (piece x0 2) (piece x1 2) (piece x2 2) (k0_pay3 x0 x3)).trans
      (congrArg (fun s => chunkOut _ _ s _ _ _ _) (stateN2 (tw c xt0) i xs0 x1 x2))) x).trans ?_
    exact (blockOut_at _ _ _ _ _ _ _ 2 x _ (by show 512 + 1 * (x 0).val = 256 * 2 + (x 0).val; omega) (by show 0 + 1 * (x 1).val = (x 1).val; omega)).symm
  · refine (congrFun ((out1 (tw c xt0) i _ (piece x0 1) (piece x1 1) (piece x2 1) (k0_pay3 x0 x3)).trans
      (congrArg (fun s => chunkOut _ _ s _ _ _ _) (stateN1 (tw c xt0) i xs0 x1 x2))) x).trans ?_
    exact (blockOut_at _ _ _ _ _ _ _ 1 x _ (by show 256 + 1 * (x 0).val = 256 * 1 + (x 0).val; omega) (by show 0 + 1 * (x 1).val = (x 1).val; omega)).symm
  · refine (congrFun (out0 (tw c xt0) i _ (piece x0 0) (piece x1 0) (piece x2 0) (k0_pay3 x0 x3)) x).trans ?_
    exact (blockOut_at _ _ _ _ _ _ _ 0 x _ (by show 0 + 1 * (x 0).val = 256 * 0 + (x 0).val; omega) (by show 0 + 1 * (x 1).val = (x 1).val; omega)).symm

/-- At the first block, the output's rows are the four chunks' rows from the zero state. -/
theorem out_A (hc0 : cond0_0 i) :
    out0_A_4 c i arg2 harg2 arg3 harg3 arg4 harg4 arg5 harg5 arg6 harg6 arg7 harg7 hc0 x0 x1 x2 x3 xt0
      = blockOut (tw c xt0) i k0_pay1 x0 x1 x2 x3 := by
  funext y
  have hcov := cover0_A_4 c i arg2 harg2 arg3 harg3 arg4 harg4 arg5 harg5 arg6 harg6 arg7 harg7 hc0 x0 x1 x2 x3 xt0 y
  unfold out0_A_4
  refine View.read_writes_apply_of_pieces VO0_4 VO0_4.junk (blockOut (tw c xt0) i k0_pay1 x0 x1 x2 x3) _ ?_ y hcov
  clear hcov
  unfold kernelRun0_A
  dsimp only
  sl_unfold_words
  simp only [View.readAt_eq_ld, harg2.read_unread, harg3.read_unread, harg4.read_unread, harg5.read_unread, harg7.read_unread, View.ld_unit_zero (S := S64x64) hz, View.ld_unit_zero (S := S1024x64) hz, View.readCov_unit_zero (S := S64x64) _ hz]
  simp only [ld_tw0, ld_tw1, ld_tw2, ld_tw3, ld_tw4, piece_ld _ 0 (by decide) 0 rfl, piece_ld _ 1 (by decide) 256 rfl,
    piece_ld _ 2 (by decide) 512 rfl, piece_ld _ 3 (by decide) 768 rfl]
  intro p hp x
  simp only [List.mem_cons, List.not_mem_nil, or_false] at hp
  rcases hp with rfl | rfl | rfl | rfl
  · refine (congrFun ((out3 (tw c xt0) i _ (piece x0 3) (piece x1 3) (piece x2 3) (k0_pay3 x0 x3)).trans
      (congrArg (fun s => chunkOut _ _ s _ _ _ _) (stateN3 (tw c xt0) i k0_pay1 x1 x2))) x).trans ?_
    exact (blockOut_at _ _ _ _ _ _ _ 3 x _ (by show 768 + 1 * (x 0).val = 256 * 3 + (x 0).val; omega) (by show 0 + 1 * (x 1).val = (x 1).val; omega)).symm
  · refine (congrFun ((out2 (tw c xt0) i _ (piece x0 2) (piece x1 2) (piece x2 2) (k0_pay3 x0 x3)).trans
      (congrArg (fun s => chunkOut _ _ s _ _ _ _) (stateN2 (tw c xt0) i k0_pay1 x1 x2))) x).trans ?_
    exact (blockOut_at _ _ _ _ _ _ _ 2 x _ (by show 512 + 1 * (x 0).val = 256 * 2 + (x 0).val; omega) (by show 0 + 1 * (x 1).val = (x 1).val; omega)).symm
  · refine (congrFun ((out1 (tw c xt0) i _ (piece x0 1) (piece x1 1) (piece x2 1) (k0_pay3 x0 x3)).trans
      (congrArg (fun s => chunkOut _ _ s _ _ _ _) (stateN1 (tw c xt0) i k0_pay1 x1 x2))) x).trans ?_
    exact (blockOut_at _ _ _ _ _ _ _ 1 x _ (by show 256 + 1 * (x 0).val = 256 * 1 + (x 0).val; omega) (by show 0 + 1 * (x 1).val = (x 1).val; omega)).symm
  · refine (congrFun (out0 (tw c xt0) i _ (piece x0 0) (piece x1 0) (piece x2 0) (k0_pay3 x0 x3)) x).trans ?_
    exact (blockOut_at _ _ _ _ _ _ _ 0 x _ (by show 0 + 1 * (x 0).val = 256 * 0 + (x 0).val; omega) (by show 0 + 1 * (x 1).val = (x 1).val; omega)).symm

end Cert.KernelIdeal.LA
-- ==== Proof.State.lean ====
module

public import proofs.«01_k».proof.Proof.Chunk

/-! What the kernel's run leaves in the result array: row by row, the output of the row's chunk of 256 rows from the
state that the chunks before it have left. -/

@[expose] public section

set_option maxRecDepth 16384

noncomputable section

namespace Cert.KernelIdeal.LA

open Cert.KernelIdeal Cert.KernelIdeal.Gen Idealize.ShloMosaic Idealize.ShloMosaic.TcCoe Idealize.SL.Sem
open Idealize.ShloMosaic.Pipeline (Dat Cfg Window)

variable {F : FTy → Type} [FloatOps F]

/-- The 1024 rows of block `t`. -/
def blk {α : Type} (x : S4096x64.Idx → α) (t : ℕ) : S1024x64.Idx → α :=
  fun y => x (ix2 ⟨(1024 * t + (y 0).val) % 4096, Nat.mod_lt _ (by decide)⟩ (y 1))

/-- The 256 rows of chunk `g`, counted from the first row of the array. -/
def gp {α : Type} (x : S4096x64.Idx → α) (g : ℕ) : S256x64.Idx → α :=
  fun y => x (ix2 ⟨(256 * g + (y 0).val) % 4096, Nat.mod_lt _ (by decide)⟩ (y 1))

/-- The state before chunk `g`. -/
def gState (w : Fin 5 → BitVec 32) (K V : Vec F S4096x64 .bf16) : ℕ → FVec F S64x64 .f32
  | 0 => k0_pay1
  | g + 1 => chunkState w (BitVec.ofNat 32 (256 * g)) (gState w K V g) (gp K g) (gp V g)

/-- The product of the first operand with the start state, block by block. -/
def gProd (Q : Vec F S4096x64 .bf16) (M0 : Vec F S64x64 .bf16) : FVec F S4096x64 .f32 :=
  fun y => k0_pay3 (blk Q ((y 0).val / 1024)) M0 (ix2 ⟨(y 0).val % 1024, Nat.mod_lt _ (by decide)⟩ (y 1))

/-- The output rows of chunk `g`. -/
def gChunk (w : Fin 5 → BitVec 32) (Q K V : Vec F S4096x64 .bf16) (M0 : Vec F S64x64 .bf16) (g : ℕ) :
    FVec F S256x64 .f32 :=
  chunkOut w (BitVec.ofNat 32 (256 * g)) (gState w K V g) (gp Q g) (gp K g) (gp V g) (gp (gProd Q M0) g)

/-- The result array. -/
def gOut (w : Fin 5 → BitVec 32) (Q K V : Vec F S4096x64 .bf16) (M0 : Vec F S64x64 .bf16) : Vec F S4096x64 .f32 :=
  fun y => gChunk w Q K V M0 ((y 0).val / 256) (ix2 ⟨(y 0).val % 256, Nat.mod_lt _ (by decide)⟩ (y 1))

theorem piece_blk {α : Type} (x : S4096x64.Idx → α) (t j : ℕ) (hj : j < 4) : piece (blk x t) j = gp x (4 * t + j) := by
  funext y
  have hy : (y 0).val < 256 := (y 0).isLt
  show x _ = x _
  congr 1
  funext a
  apply Fin.ext
  match a with
  | ⟨0, _⟩ =>
    show (1024 * t + (256 * j + (y 0).val) % 1024) % 4096 = (256 * (4 * t + j) + (y 0).val) % 4096
    rw [Nat.mod_eq_of_lt (by omega : 256 * j + (y 0).val < 1024)]
    congr 1; omega
  | ⟨1, _⟩ => rfl

theorem piece_prod (Q : Vec F S4096x64 .bf16) (M0 : Vec F S64x64 .bf16) (t j : ℕ) (ht : t < 4) (hj : j < 4) :
    piece (k0_pay3 (blk Q t) M0) j = gp (gProd Q M0) (4 * t + j) := by
  funext y
  have hy : (y 0).val < 256 := (y 0).isLt
  show k0_pay3 (blk Q t) M0 _ = k0_pay3 (blk Q ((256 * (4 * t + j) + (y 0).val) % 4096 / 1024)) M0 _
  rw [show (256 * (4 * t + j) + (y 0).val) % 4096 / 1024 = t from by omega]
  congr 1
  funext a
  apply Fin.ext
  match a with
  | ⟨0, _⟩ =>
    show (256 * j + (y 0).val) % 1024 = (256 * (4 * t + j) + (y 0).val) % 4096 % 1024
    omega
  | ⟨1, _⟩ => rfl

theorem base_eq (i : grid0.Coords) (t : ℕ) (hi : (i 0).val = t) (ht : t < 4) (j : ℕ) (hj : j < 4) :
    base i j = BitVec.ofNat 32 (256 * (4 * t + j)) := by
  unfold base
  rw [hi]
  interval_cases t <;> interval_cases j <;> rfl

theorem stateAt_eq (w : Fin 5 → BitVec 32) (i : grid0.Coords) (t : ℕ) (hi : (i 0).val = t) (ht : t < 4)
    (K V : Vec F S4096x64 .bf16) : ∀ j ≤ 4, stateAt w i (gState w K V (4 * t)) (blk K t) (blk V t) j = gState w K V (4 * t + j)
  | 0, _ => rfl
  | j + 1, h => by
    show chunkState _ _ _ _ _ = chunkState _ _ _ _ _
    rw [stateAt_eq w i t hi ht K V j (by omega), piece_blk K t j (by omega), piece_blk V t j (by omega),
      base_eq i t hi ht j (by omega)]
    rfl

theorem blockOut_eq (w : Fin 5 → BitVec 32) (i : grid0.Coords) (t : ℕ) (hi : (i 0).val = t) (ht : t < 4)
    (Q K V : Vec F S4096x64 .bf16) (M0 : Vec F S64x64 .bf16) :
    blockOut w i (gState w K V (4 * t)) (blk Q t) (blk K t) (blk V t) M0 = blk (gOut w Q K V M0) t := by
  funext y
  have hy : (y 0).val < 1024 := (y 0).isLt
  have h4 : (y 0).val / 256 < 4 := by omega
  unfold blockOut
  rw [stateAt_eq w i t hi ht K V _ (by omega), piece_blk K t _ h4, piece_blk V t _ h4, piece_blk Q t _ h4,
    base_eq i t hi ht _ h4, piece_prod Q M0 t _ ht h4]
  show gChunk w Q K V M0 (4 * t + (y 0).val / 256) _ = gChunk w Q K V M0 ((1024 * t + (y 0).val) % 4096 / 256) _
  rw [show (1024 * t + (y 0).val) % 4096 / 256 = 4 * t + (y 0).val / 256 from by omega]
  congr 1
  funext a
  apply Fin.ext
  match a with
  | ⟨0, _⟩ => show (y 0).val % 256 = (1024 * t + (y 0).val) % 4096 % 256; omega
  | ⟨1, _⟩ => rfl

/-- The output of a block whose operands are the arrays' blocks `t`, from the state before it. -/
theorem blockOut_of (w : Fin 5 → BitVec 32) (i : grid0.Coords) (t : ℕ) (hi : (i 0).val = t) (ht : t < 4)
    (Q K V : Vec F S4096x64 .bf16) (M0 : Vec F S64x64 .bf16) (st : Vec F S64x64 .f32) (x0 x1 x2 : Vec F S1024x64 .bf16)
    (x3 : Vec F S64x64 .bf16) (hs : st = gState w K V (4 * t)) (h0 : x0 = blk Q t) (h1 : x1 = blk K t)
    (h2 : x2 = blk V t) (h3 : x3 = M0) : blockOut w i st x0 x1 x2 x3 = blk (gOut w Q K V M0) t := by
  subst hs h0 h1 h2 h3; exact blockOut_eq w i t hi ht Q K V _

/-- The state after a block whose operands are the arrays' blocks `t`. -/
theorem stateAt_of (w : Fin 5 → BitVec 32) (i : grid0.Coords) (t : ℕ) (hi : (i 0).val = t) (ht : t < 4)
    (K V : Vec F S4096x64 .bf16) (st : Vec F S64x64 .f32) (x1 x2 : Vec F S1024x64 .bf16)
    (hs : st = gState w K V (4 * t)) (h1 : x1 = blk K t)
    (h2 : x2 = blk V t) : stateAt w i st x1 x2 4 = gState w K V (4 * t + 4) := by
  subst hs h1 h2; exact stateAt_eq w i t hi ht K V 4 (by decide)

/-! ## The run -/

variable (m : (ℓ : Loc nD τ sig) → Buf (Elt F) ℓ) (ρ : Dev nD → PrngReg)

theorem coords_val (t : Fin grid0.N) : ((grid0.coords t) 0).val = t.val := by
  rcases fin_N0 t with rfl | rfl | rfl | rfl <;> decide +kernel

/-- Window 0's block at point `t` is the block `t` of its array. -/
theorem iblk_0 (hO : Ok m) (c : Dev nD) (t : Fin grid0.N) :
    (iblk m hO c 0 t : Vec F S1024x64 .bf16) = blk (V m c main_v0 : Vec F S4096x64 .bf16) t.val := by
  have hi : cc0_transform_0 (grid0.coords t) 0 = t.val ∧ cc0_transform_0 (grid0.coords t) 1 = 0 := by
    rcases fin_N0 t with rfl | rfl | rfl | rfl <;> decide +kernel
  have ht : t.val < 4 := lt_of_lt_of_eq t.isLt N_0
  refine funext fun (j : S1024x64.Idx) => ?_
  have hj : (j 0).val < 1024 := (j 0).isLt
  refine congrArg (V m c main_v0 : S4096x64.Idx → F .bf16) (a₁ := (((cfgM m hO).win 0).blk t).view.emb j)
    (a₂ := ix2 ⟨(1024 * t.val + (j 0).val) % 4096, Nat.mod_lt _ (by decide)⟩ (j 1)) ?_
  funext a
  apply Fin.ext
  match a with
  | ⟨0, _⟩ => show cc0_transform_0 (grid0.coords t) 0 * 1024 + 1 * (j 0).val = (1024 * t.val + (j 0).val) % 4096; rw [hi.1]; omega
  | ⟨1, _⟩ => show cc0_transform_0 (grid0.coords t) 1 * 64 + 1 * (j 1).val = (j 1).val; rw [hi.2]; omega

/-- Window 1's block at point `t` is the block `t` of its array. -/
theorem iblk_1 (hO : Ok m) (c : Dev nD) (t : Fin grid0.N) :
    (iblk m hO c 1 t : Vec F S1024x64 .bf16) = blk (V m c main_v1 : Vec F S4096x64 .bf16) t.val := by
  have hi : cc0_transform_1 (grid0.coords t) 0 = t.val ∧ cc0_transform_1 (grid0.coords t) 1 = 0 := by
    rcases fin_N0 t with rfl | rfl | rfl | rfl <;> decide +kernel
  have ht : t.val < 4 := lt_of_lt_of_eq t.isLt N_0
  refine funext fun (j : S1024x64.Idx) => ?_
  have hj : (j 0).val < 1024 := (j 0).isLt
  refine congrArg (V m c main_v1 : S4096x64.Idx → F .bf16) (a₁ := (((cfgM m hO).win 1).blk t).view.emb j)
    (a₂ := ix2 ⟨(1024 * t.val + (j 0).val) % 4096, Nat.mod_lt _ (by decide)⟩ (j 1)) ?_
  funext a
  apply Fin.ext
  match a with
  | ⟨0, _⟩ => show cc0_transform_1 (grid0.coords t) 0 * 1024 + 1 * (j 0).val = (1024 * t.val + (j 0).val) % 4096; rw [hi.1]; omega
  | ⟨1, _⟩ => show cc0_transform_1 (grid0.coords t) 1 * 64 + 1 * (j 1).val = (j 1).val; rw [hi.2]; omega

/-- Window 2's block at point `t` is the block `t` of its array. -/
theorem iblk_2 (hO : Ok m) (c : Dev nD) (t : Fin grid0.N) :
    (iblk m hO c 2 t : Vec F S1024x64 .bf16) = blk (V m c main_v2 : Vec F S4096x64 .bf16) t.val := by
  have hi : cc0_transform_2 (grid0.coords t) 0 = t.val ∧ cc0_transform_2 (grid0.coords t) 1 = 0 := by
    rcases fin_N0 t with rfl | rfl | rfl | rfl <;> decide +kernel
  have ht : t.val < 4 := lt_of_lt_of_eq t.isLt N_0
  refine funext fun (j : S1024x64.Idx) => ?_
  have hj : (j 0).val < 1024 := (j 0).isLt
  refine congrArg (V m c main_v2 : S4096x64.Idx → F .bf16) (a₁ := (((cfgM m hO).win 2).blk t).view.emb j)
    (a₂ := ix2 ⟨(1024 * t.val + (j 0).val) % 4096, Nat.mod_lt _ (by decide)⟩ (j 1)) ?_
  funext a
  apply Fin.ext
  match a with
  | ⟨0, _⟩ => show cc0_transform_2 (grid0.coords t) 0 * 1024 + 1 * (j 0).val = (1024 * t.val + (j 0).val) % 4096; rw [hi.1]; omega
  | ⟨1, _⟩ => show cc0_transform_2 (grid0.coords t) 1 * 64 + 1 * (j 1).val = (j 1).val; rw [hi.2]; omega

/-- Window 3's block is its whole array at every point. -/
theorem iblk_3 (hO : Ok m) (c : Dev nD) (t : Fin grid0.N) :
    (iblk m hO c 3 t : Vec F S64x64 .bf16) = (V m c main_v3 : Vec F S64x64 .bf16) := by
  have hi : cc0_transform_3 (grid0.coords t) 0 = 0 ∧ cc0_transform_3 (grid0.coords t) 1 = 0 := by
    rcases fin_N0 t with rfl | rfl | rfl | rfl <;> decide +kernel
  refine funext fun (j : S64x64.Idx) => ?_
  refine congrArg (V m c main_v3 : S64x64.Idx → F .bf16) (a₁ := (((cfgM m hO).win 3).blk t).view.emb j)
    (a₂ := j) ?_
  funext a
  apply Fin.ext
  match a with
  | ⟨0, _⟩ => show cc0_transform_3 (grid0.coords t) 0 * 64 + 1 * (j 0).val = (j 0).val; rw [hi.1]; omega
  | ⟨1, _⟩ => show cc0_transform_3 (grid0.coords t) 1 * 64 + 1 * (j 1).val = (j 1).val; rw [hi.2]; omega

/-- The table's five words. -/
abbrev words (c : Dev nD) : Fin 5 → BitVec 32 := tw c (tbl m 0)

/-- The result array, from the arrays as the kernel finds them. -/
abbrev result (c : Dev nD) : Buf (Elt F) ((c : Thread nD τ).loc main_v4) :=
  gOut (words m c) (V m c main_v0) (V m c main_v1) (V m c main_v2) (V m c main_v3)

/-- After the point `n` the output's staging buffer holds block `n` of the result, and the carried state is the state
before the next block. -/
theorem outsAt_eq (hO : Ok m) (c : Dev nD) : ∀ (n : ℕ) (h : n < (cfgM m hO).N), outsAt0 m hO c n h
      = (blk (result m c) n, gState (words m c) (V m c main_v1) (V m c main_v2) (4 * n + 4))
  | 0, h => by
    have hc : ((grid0.coords ⟨0, h⟩) 0).val = 0 := coords_val ⟨0, h⟩
    refine (outsAt0_A m hO c ⟨0, h⟩ rfl).trans (Prod.ext ?_ ?_) <;> dsimp only
    · exact Eq.trans (out_A ..) (blockOut_of _ _ 0 hc (by decide) _ _ _ _ _ _ _ _ _ rfl (iblk_0 m hO c ⟨0, h⟩)
        (iblk_1 m hO c ⟨0, h⟩) (iblk_2 m hO c ⟨0, h⟩) (iblk_3 m hO c ⟨0, h⟩))
    · exact Eq.trans (sout_A ..) (stateAt_of _ _ 0 hc (by decide) _ _ _ _ _ rfl (iblk_1 m hO c ⟨0, h⟩) (iblk_2 m hO c ⟨0, h⟩))
  | n + 1, h => by
    have hN : (cfgM m hO).N = 4 := N_0
    have hc : ((grid0.coords ⟨n + 1, h⟩) 0).val = n + 1 := coords_val ⟨n + 1, h⟩
    have hB : ¬(⟨n + 1, h⟩ : Fin (cfgM m hO).N).val % 4 = 0 := by dsimp only; omega
    have hs : (outsAt0 m hO c ((⟨n + 1, h⟩ : Fin (cfgM m hO).N).val - 1) (Nat.lt_of_le_of_lt (Nat.sub_le _ _) h)).2
        = gState (words m c) (V m c main_v1) (V m c main_v2) (4 * (n + 1)) :=
      congrArg Prod.snd (outsAt_eq hO c n (Nat.lt_of_succ_lt h))
    refine (outsAt0_B m hO c ⟨n + 1, h⟩ hB).trans (Prod.ext ?_ ?_) <;> dsimp only
    · exact Eq.trans (out_B ..) (blockOut_of _ _ (n + 1) hc (by omega) _ _ _ _ _ _ _ _ _ hs (iblk_0 m hO c ⟨n + 1, h⟩)
        (iblk_1 m hO c ⟨n + 1, h⟩) (iblk_2 m hO c ⟨n + 1, h⟩) (iblk_3 m hO c ⟨n + 1, h⟩))
    · exact Eq.trans (sout_B ..) (stateAt_of _ _ (n + 1) hc (by omega) _ _ _ _ _ hs (iblk_1 m hO c ⟨n + 1, h⟩)
        (iblk_2 m hO c ⟨n + 1, h⟩))

theorem index_4 (t : Fin grid0.N) : cc0_transform_4 (grid0.coords t) 0 = t.val ∧ cc0_transform_4 (grid0.coords t) 1 = 0 := by
  rcases fin_N0 t with rfl | rfl | rfl | rfl <;> decide +kernel

/-- What each point writes back is its block of the result. -/
theorem flushed_eq (hO : Ok m) (c : Dev nD) (t : Fin (cfgM m hO).N) (hf : ((cfgM m hO).win 4).flush t = true) :
    (dats m hO 0 c).flushed 4 t = (((cfgM m hO).win 4).blk t).view.read (Elt F) (result m c) := by
  show ((cfgM m hO).win 4).cut (grid0.coords t) ((dats m hO 0 c).after 4 t) = _
  rw [after0_4, outsAt_eq]
  have hi := index_4 t
  have ht : t.val < 4 := lt_of_lt_of_eq t.isLt N_0
  refine funext fun (j : S1024x64.Idx) => ?_
  have hj : (j 0).val < 1024 := (j 0).isLt
  refine congrArg (result m c : S4096x64.Idx → F .f32) (a₁ := ix2 ⟨(1024 * t.val + (j 0).val) % 4096, Nat.mod_lt _ (by decide)⟩ (j 1))
    (a₂ := (((cfgM m hO).win 4).blk t).view.emb j) ?_
  funext a
  apply Fin.ext
  match a with
  | ⟨0, _⟩ => show (1024 * t.val + (j 0).val) % 4096 = cc0_transform_4 (grid0.coords t) 0 * 1024 + 1 * (j 0).val; rw [hi.1]; omega
  | ⟨1, _⟩ => show (j 1).val = cc0_transform_4 (grid0.coords t) 1 * 64 + 1 * (j 1).val; rw [hi.2]; omega

/-- An index of the result array lies in the block that holds its row. -/
theorem mem_blk (hO : Ok m) (t : Fin grid0.N) (i : S4096x64.Idx) (h : (i 0).val / 1024 = t.val) :
    i ∈ (((cfgM m hO).win 4).blk t).view.set := by
  have h0 : (i 0).val < 4096 := (i 0).isLt
  have h1 : (i 1).val < 64 := (i 1).isLt
  have hi := index_4 t
  refine (Finset.ext_iff.mp (View.set_slice_whole main_v4 _) i).mpr (Rect.mem_set_unit.mpr ?_)
  intro a
  match a with
  | ⟨0, _⟩ =>
    show cc0_transform_4 (grid0.coords t) 0 * 1024 ≤ (i 0 : Nat) ∧ (i 0 : Nat) < cc0_transform_4 (grid0.coords t) 0 * 1024 + 1024
    rw [hi.1]; omega
  | ⟨1, _⟩ =>
    show cc0_transform_4 (grid0.coords t) 1 * 64 ≤ (i 1 : Nat) ∧ (i 1 : Nat) < cc0_transform_4 (grid0.coords t) 1 * 64 + 64
    rw [hi.2]; omega

/-- The result array ends at the result. -/
theorem final_o (hO : Ok m) (c : Dev nD) : (dats m hO 0 c).arrAt 4 (cfgM m hO).N = result m c :=
  (dats m hO 0 c).arrAt_eq_of_cover 4 (result m c) (flushed_eq m hO c) fun (i : S4096x64.Idx) =>
    ⟨⟨(i 0).val / 1024, lt_of_lt_of_eq (show (i 0).val / 1024 < 4 by have : (i 0).val < 4096 := (i 0).isLt; omega) N_0.symm⟩,
      flush0_4 _ _, mem_blk m hO _ i rfl⟩

end Cert.KernelIdeal.LA
-- ==== Proof.Segments.lean ====
module

public import Idealize.ShloMosaic.Lib.Pointwise
public import Idealize.ShloMosaic.Lib.Tactic

/-! The mathematics of the claim, away from the programs: the start of a row's segment, sums over the rows of a
segment up to a bound, and the few facts about extended reals that the two ways of summing need. -/

@[expose] public section

noncomputable section

namespace Cert.Segments

/-- The start of the segment of row `t`: the last of the first four bounds that is at most `t`, or else the first. -/
def start (s : Fin 5 → ℤ) (t : ℤ) : ℤ :=
  if s 3 ≤ t then s 3 else if s 2 ≤ t then s 2 else if s 1 ≤ t then s 1 else s 0

/-- The bounds are in order and not negative. -/
structure Ordered (s : Fin 5 → ℤ) : Prop where
  nonneg : 0 ≤ s 0
  h01 : s 0 ≤ s 1
  h12 : s 1 ≤ s 2
  h23 : s 2 ≤ s 3
  h34 : s 3 ≤ s 4

theorem start_nonneg {s : Fin 5 → ℤ} (h : Ordered s) (t : ℤ) : 0 ≤ start s t := by
  obtain ⟨h0, h1, h2, h3, h4⟩ := h
  unfold start; split_ifs <;> omega

theorem start_le {s : Fin 5 → ℤ} (h : Ordered s) (t : ℤ) (ht : s 0 ≤ t) : start s t ≤ t := by
  obtain ⟨h0, h1, h2, h3, h4⟩ := h
  unfold start; split_ifs <;> omega

/-- A row `t` whose segment starts before row `c` has the segment start of row `c - 1`, if `c - 1` is not after `t`. -/
theorem start_pred {s : Fin 5 → ℤ} (h : Ordered s) (t c : ℤ) (h1 : start s t < c) (h2 : c ≤ t + 1) :
    start s (c - 1) = start s t := by
  obtain ⟨h0, h01, h12, h23, h34⟩ := h
  unfold start at *; split_ifs at * <;> omega

/-- The sum of `f` over the numbers below `hi` that are at least `lo`. -/
def segSum {M : Type} [AddCommMonoid M] (f : ℕ → M) (lo : ℤ) (hi : ℕ) : M :=
  ∑ u ∈ Finset.range hi, if lo ≤ (u : ℤ) then f u else 0

theorem segSum_add {M : Type} [AddCommMonoid M] (f : ℕ → M) (lo : ℤ) (hi n : ℕ) :
    segSum f lo (hi + n) = segSum f lo hi + ∑ x ∈ Finset.range n, if lo ≤ ((hi + x : ℕ) : ℤ) then f (hi + x) else 0 :=
  Finset.sum_range_add _ _ _

theorem segSum_zero_of_le {M : Type} [AddCommMonoid M] (f : ℕ → M) (lo : ℤ) (hi : ℕ) (h : (hi : ℤ) ≤ lo) :
    segSum f lo hi = 0 :=
  Finset.sum_eq_zero fun u hu => if_neg (by have := Finset.mem_range.mp hu; omega)

/-- The sum from `lo` is the difference of the two sums from zero. -/
theorem segSum_eq_sub (f : ℕ → ℝ) (lo hi : ℕ) (h : lo ≤ hi) :
    segSum f lo hi = ∑ u ∈ Finset.range hi, f u - ∑ u ∈ Finset.range lo, f u := by
  obtain ⟨n, rfl⟩ := Nat.exists_eq_add_of_le h
  rw [segSum_add, segSum_zero_of_le f lo lo le_rfl, Finset.sum_range_add, zero_add, add_sub_cancel_left]
  exact Finset.sum_congr rfl fun x _ => if_pos (by omega)

/-- One chunk's step of the state: what the state before the chunk keeps, and the chunk's rows from the start of the
segment of the chunk's last row. -/
theorem segSum_step {s : Fin 5 → ℤ} (h : Ordered s) (f : ℕ → ℝ) (c : ℕ) :
    (if start s (c + 255) < c then segSum f (start s (c - 1)) c else 0)
      + ∑ x ∈ Finset.range 256, (if start s (c + 255) ≤ ((c + x : ℕ) : ℤ) then f (c + x) else 0)
      = segSum f (start s (c + 255)) (c + 256) := by
  rw [segSum_add]
  congr 1
  split_ifs with hc
  · rw [start_pred h _ _ hc (by omega)]
  · exact (segSum_zero_of_le f _ _ (by omega)).symm

/-- One row's sum: what the state before the row's chunk carries, and the chunk's rows up to the row. -/
theorem segSum_row {s : Fin 5 → ℤ} (h : Ordered s) (f : ℕ → ℝ) (c a : ℕ) (ha : a < 256) :
    (if start s ((c + a : ℕ) : ℤ) < c then segSum f (start s (c - 1)) c else 0)
      + ∑ x ∈ Finset.range 256, (if x ≤ a ∧ start s ((c + a : ℕ) : ℤ) - c ≤ (x : ℤ) then f (c + x) else 0)
      = segSum f (start s ((c + a : ℕ) : ℤ)) (c + a + 1) := by
  rw [add_assoc c a 1, segSum_add]
  congr 1
  · split_ifs with hc
    · rw [start_pred h _ _ hc (by omega)]
    · exact (segSum_zero_of_le f _ _ (by omega)).symm
  · symm
    apply Finset.sum_subset_zero_on_sdiff
    · exact Finset.range_subset_range.mpr (by omega)
    · intro x hx
      simp only [Finset.mem_sdiff, Finset.mem_range] at hx
      exact if_neg (by omega)
    · intro x hx
      have hx := Finset.mem_range.mp hx
      congr 1
      apply propext
      omega

/-- Multiplying a segment's sum by coefficients and summing is the segment's sum of the summed products. -/
theorem sum_mul_segSum {n : ℕ} (q : Fin n → ℝ) (f : Fin n → ℕ → ℝ) (lo : ℤ) (hi : ℕ) :
    ∑ a, q a * segSum (f a) lo hi = segSum (fun u => ∑ a, q a * f a u) lo hi := by
  unfold segSum
  simp only [Finset.mul_sum]
  rw [Finset.sum_comm]
  refine Finset.sum_congr rfl fun u _ => ?_
  split_ifs
  · rfl
  · simp

/-! ## Extended reals -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_ite (p : Prop) [Decidable p] (x : ℝ) : ((if p then x else 0 : ℝ) : EReal) = if p then (x : EReal) else 0 := by
  split_ifs <;> rfl

/-- A real factor times an extended real that a real is added to. -/
theorem mul_add_coe (q x : ℝ) (m : EReal) : (q : EReal) * (m + (x : EReal)) = (q : EReal) * m + ((q * x : ℝ) : EReal) := by
  induction m with
  | coe r => rw [← EReal.coe_add, ← EReal.coe_mul, ← EReal.coe_mul, ← EReal.coe_add, mul_add]
  | top =>
    rcases lt_trichotomy q 0 with h | h | h
    · rw [EReal.top_add_coe, EReal.coe_mul_top_of_neg h, EReal.bot_add]
    · subst h; simp
    · rw [EReal.top_add_coe, EReal.coe_mul_top_of_pos h, EReal.top_add_coe]
  | bot =>
    rcases lt_trichotomy q 0 with h | h | h
    · rw [EReal.bot_add, EReal.coe_mul_bot_of_neg h, EReal.top_add_coe]
    · subst h; simp
    · rw [EReal.bot_add, EReal.coe_mul_bot_of_pos h, EReal.bot_add]

theorem add_coe_sub_coe (m : EReal) (x y : ℝ) : m + (x : EReal) - (y : EReal) = m + ((x - y : ℝ) : EReal) := by
  rw [sub_eq_add_neg, add_assoc, ← EReal.coe_neg, ← EReal.coe_add, ← sub_eq_add_neg]

/-- An extended real that is below the top in size is a real. -/
theorem exists_coe_of_abs_lt {x : EReal} (h : max x (-x) < ⊤) : ∃ r : ℝ, x = (r : EReal) := by
  induction x with
  | coe r => exact ⟨r, rfl⟩
  | top => simp at h
  | bot => simp at h

/-- A row's two products, summed separately, are the sum of the row's product with the start state and a segment's sum. -/
theorem row_eq {n : ℕ} (q : Fin n → ℝ) (m : Fin n → EReal) (f : Fin n → ℕ → ℝ) (lo hi : ℕ) (h : lo ≤ hi) :
    ∑ a, (q a : EReal) * (m a + ((∑ u ∈ Finset.range hi, f a u : ℝ) : EReal) - ((∑ u ∈ Finset.range lo, f a u : ℝ) : EReal))
      = ∑ a, (q a : EReal) * m a + ((segSum (fun u => ∑ a, q a * f a u) lo hi : ℝ) : EReal) := by
  simp only [add_coe_sub_coe, mul_add_coe]
  rw [Finset.sum_add_distrib, ← coe_sum, ← sum_mul_segSum]
  simp only [segSum_eq_sub _ lo hi h]

end Cert.Segments
-- ==== Proof.KValue.lean ====
module

public import proofs.«01_k».proof.Proof.State
public import proofs.«01_k».proof.Proof.Segments

/-! One chunk's computation read at an index at the extended reals, with the comparisons of words as comparisons of
integers. -/

@[expose] public section

set_option maxRecDepth 16384

noncomputable section

open Cert.KernelIdeal Cert.KernelIdeal.Gen Idealize.ShloMosaic Idealize.ShloMosaic.TcCoe Idealize.SL.Sem

namespace Cert.KernelIdeal.LA

/-! ## Words -/

/-- The segment bounds as integers. -/
def ints (w : Fin 5 → BitVec 32) : Fin 5 → ℤ := fun p => (w p).toInt

theorem toInt_row (n : ℕ) (h : n < 4096) : (BitVec.ofNat 32 n).toInt = (n : ℤ) := by
  rw [BitVec.toInt_eq_toNat_cond, BitVec.toNat_ofNat]; split_ifs <;> omega

/-- The sum of a chunk's first row and a row within the chunk is the row's word. -/
theorem row_word (c x : ℕ) : IntOp.addi (BitVec.ofNat 32 c) (BitVec.ofNat 32 x) = BitVec.ofNat 32 (c + x) :=
  (BitVec.ofNat_add ..).symm

theorem last_word (c : ℕ) :
    Scalar.subi (Scalar.addi (BitVec.ofNat 32 c) 256#32) 1#32 = BitVec.ofNat 32 (c + 255) := by
  change BitVec.ofNat 32 c + 256#32 - 1#32 = _
  rw [BitVec.ofNat_add]
  bv_omega

theorem select_ofBool {α : Type} (p : Prop) [Decidable p] (x y : α) :
    Scalar.select (BitVec.ofBool (decide p)) x y = if p then x else y := by
  by_cases h : p
  · simp [h, Scalar.select]
  · simp [h, Scalar.select]

theorem andi_ofBool (p r : Prop) [Decidable p] [Decidable r] :
    IntOp.andi (BitVec.ofBool (decide p)) (BitVec.ofBool (decide r)) = BitVec.ofBool (decide (p ∧ r)) := by
  by_cases hp : p <;> by_cases hr : r <;> simp [hp, hr, IntOp.andi]

/-- A bit widened to a word and converted is one or zero. -/
theorem sitofp_ofBool (p : Prop) [Decidable p] :
    (FloatOps.sitofp (F := Ideal) FTy.f32 (BitVec.setWidth 32 (BitVec.ofBool (decide p))) : EReal)
      = if p then 1 else 0 := by
  by_cases h : p
  · simp [h, FloatOps.sitofp]
  · simp [h, FloatOps.sitofp]

theorem startWord_eq (w : Fin 5 → BitVec 32) (r : BitVec 32) :
    (startWord w r).toInt = Segments.start (ints w) r.toInt := by
  change BitVec.toInt (Scalar.select (BitVec.ofBool (decide ((w 3).toInt ≤ r.toInt))) (w 3)
    (Scalar.select (BitVec.ofBool (decide ((w 2).toInt ≤ r.toInt))) (w 2)
      (Scalar.select (BitVec.ofBool (decide ((w 1).toInt ≤ r.toInt))) (w 1) (w 0)))) = _
  rw [select_ofBool, select_ofBool, select_ofBool]
  unfold Segments.start ints
  split_ifs <;> rfl

/-! ## The chunk at an index -/

/-- The state after a chunk at an index, over words. -/
theorem chunkState_raw (w : Fin 5 → BitVec 32) (b : BitVec 32) (st : FVec Ideal S64x64 .f32)
    (k v : FVec Ideal S256x64 .bf16) (a d : Fin 64) :
    (chunkState w b st k v (ix2 a d) : EReal)
      = (FloatOps.sitofp (F := Ideal) FTy.f32 (BitVec.setWidth 32
          (IntOp.cmpi .slt (startWord w (Scalar.subi (Scalar.addi b 256#32) 1#32)) b)) : EReal) * st (ix2 a d)
        + ∑ x : Fin 256, (k (ix2 x a) : EReal) * (FloatOps.sitofp (F := Ideal) FTy.f32 (BitVec.setWidth 32
            (IntOp.cmpi .sge (IntOp.addi b (BitVec.ofNat 32 x.val))
              (startWord w (Scalar.subi (Scalar.addi b 256#32) 1#32)))) : EReal) * v (ix2 x d) := by
  pointwise [chunkState, rowsOf]
  rfl

/-- A chunk's output at an index, over words. -/
theorem chunkOut_raw (w : Fin 5 → BitVec 32) (b : BitVec 32) (st : FVec Ideal S64x64 .f32)
    (q k v : FVec Ideal S256x64 .bf16) (p : FVec Ideal S256x64 .f32) (a : Fin 256) (d : Fin 64) :
    (chunkOut w b st q k v p (ix2 a d) : EReal)
      = (FloatOps.sitofp (F := Ideal) FTy.f32 (BitVec.setWidth 32
          (IntOp.andi (IntOp.cmpi .sge (IntOp.addi b (BitVec.ofNat 32 a.val)) (w 0))
            (IntOp.cmpi .slt (IntOp.addi b (BitVec.ofNat 32 a.val)) (w 4)))) : EReal)
        * ((p (ix2 a d) : EReal)
          + (FloatOps.sitofp (F := Ideal) FTy.f32 (BitVec.setWidth 32
              (IntOp.cmpi .slt (startWord w (IntOp.addi b (BitVec.ofNat 32 a.val))) b)) : EReal)
            * ∑ x : Fin 64, (q (ix2 a x) : EReal) * st (ix2 x d)
          + ∑ x : Fin 256, (Scalar.select (IntOp.andi
              (IntOp.cmpi .sle (BitVec.ofNat 32 x.val) (BitVec.ofNat 32 a.val))
              (IntOp.cmpi .sge (BitVec.ofNat 32 x.val)
                (IntOp.subi (startWord w (IntOp.addi b (BitVec.ofNat 32 a.val))) b)))
              (∑ y : Fin 64, (q (ix2 a y) : EReal) * k (ix2 x y)) 0) * v (ix2 x d)) := by
  pointwise [chunkOut, rowsOf, startsOf, k0_pay2]
  rfl

/-- The first product at an index. -/
theorem pay3_raw (q : Vec Ideal S1024x64 .bf16) (m : Vec Ideal S64x64 .bf16) (a : Fin 1024) (d : Fin 64) :
    (k0_pay3 (F := Ideal) q m (ix2 a d) : EReal) = ∑ x : Fin 64, (q (ix2 a x) : EReal) * m (ix2 x d) := by
  pointwise [k0_pay3]

theorem slt_eq (x y : BitVec 32) : IntOp.cmpi .slt x y = BitVec.ofBool (decide (x.toInt < y.toInt)) := rfl
theorem sge_eq (x y : BitVec 32) : IntOp.cmpi .sge x y = BitVec.ofBool (decide (y.toInt ≤ x.toInt)) := rfl
theorem sle_eq (x y : BitVec 32) : IntOp.cmpi .sle x y = BitVec.ofBool (decide (x.toInt ≤ y.toInt)) := rfl

/-- The difference of a start and a row does not overflow. -/
theorem toInt_subi (x : BitVec 32) (c : ℕ) (h : 0 ≤ x.toInt) (hc : c < 4096) :
    (IntOp.subi x (BitVec.ofNat 32 c)).toInt = x.toInt - c := by
  change (x - BitVec.ofNat 32 c).toInt = _
  rw [BitVec.toInt_sub, toInt_row c hc, Int.bmod_eq_of_le] <;> have := x.toInt_lt <;> omega

/-- The state after the chunk of first row `c` at an index, over integers. -/
theorem chunkState_at (w : Fin 5 → BitVec 32) (c : ℕ) (hc : c + 256 ≤ 4096) (st : FVec Ideal S64x64 .f32)
    (k v : FVec Ideal S256x64 .bf16) (a d : Fin 64) :
    (chunkState w (BitVec.ofNat 32 c) st k v (ix2 a d) : EReal)
      = (if Segments.start (ints w) (c + 255) < c then (st (ix2 a d) : EReal) else 0)
        + ∑ x : Fin 256, if Segments.start (ints w) (c + 255) ≤ ((c + x.val : ℕ) : ℤ) then
            (k (ix2 x a) : EReal) * v (ix2 x d) else 0 := by
  refine (chunkState_raw w _ st k v a d).trans ?_
  rw [last_word, slt_eq, sitofp_ofBool, startWord_eq, toInt_row c (by omega), toInt_row (c + 255) (by omega)]
  push_cast
  congr 1
  · split_ifs <;> simp
  · refine Finset.sum_congr rfl fun x _ => ?_
    rw [row_word, sge_eq, sitofp_ofBool, startWord_eq, toInt_row (c + 255) (by omega), toInt_row (c + x) (by omega)]
    push_cast
    split_ifs <;> simp

/-- The output of the chunk of first row `c` at an index, over integers. -/
theorem chunkOut_at (w : Fin 5 → BitVec 32) (hw : Segments.Ordered (ints w)) (c : ℕ) (hc : c + 256 ≤ 4096)
    (st : FVec Ideal S64x64 .f32) (q k v : FVec Ideal S256x64 .bf16) (p : FVec Ideal S256x64 .f32) (a : Fin 256)
    (d : Fin 64) :
    (chunkOut w (BitVec.ofNat 32 c) st q k v p (ix2 a d) : EReal)
      = if ints w 0 ≤ ((c + a.val : ℕ) : ℤ) ∧ ((c + a.val : ℕ) : ℤ) < ints w 4 then
          (p (ix2 a d) : EReal)
          + (if Segments.start (ints w) ((c + a.val : ℕ) : ℤ) < c then
              ∑ x : Fin 64, (q (ix2 a x) : EReal) * st (ix2 x d) else 0)
          + ∑ x : Fin 256, (if x.val ≤ a.val ∧ Segments.start (ints w) ((c + a.val : ℕ) : ℤ) - c ≤ (x.val : ℤ) then
              (∑ y : Fin 64, (q (ix2 a y) : EReal) * k (ix2 x y)) * v (ix2 x d) else 0)
        else 0 := by
  refine (chunkOut_raw w _ st q k v p a d).trans ?_
  rw [row_word, sge_eq, slt_eq, slt_eq, andi_ofBool, sitofp_ofBool, sitofp_ofBool, startWord_eq,
    toInt_row c (by omega), toInt_row (c + a) (by omega)]
  have hx : ∀ x : Fin 256, Scalar.select (IntOp.andi
        (IntOp.cmpi .sle (BitVec.ofNat 32 x.val) (BitVec.ofNat 32 a.val))
        (IntOp.cmpi .sge (BitVec.ofNat 32 x.val)
          (IntOp.subi (startWord w (BitVec.ofNat 32 (c + a))) (BitVec.ofNat 32 c))))
        (∑ y : Fin 64, (q (ix2 a y) : EReal) * k (ix2 x y)) 0 * v (ix2 x d)
      = if x.val ≤ a.val ∧ Segments.start (ints w) ((c + a.val : ℕ) : ℤ) - c ≤ (x.val : ℤ) then
              (∑ y : Fin 64, (q (ix2 a y) : EReal) * k (ix2 x y)) * v (ix2 x d) else 0 := by
    intro x
    have h0 : 0 ≤ (startWord w (BitVec.ofNat 32 (c + a))).toInt := by
      rw [startWord_eq]; exact Segments.start_nonneg hw _
    rw [sle_eq, sge_eq, andi_ofBool, select_ofBool, toInt_subi _ c h0 (by omega), startWord_eq,
      toInt_row (c + a) (by omega), toInt_row x (by omega), toInt_row a (by omega)]
    simp only [Nat.cast_le]
    split_ifs <;> simp
  simp only [hx]
  change _ = if (w 0).toInt ≤ _ ∧ _ < (w 4).toInt then _ else _
  split_ifs <;> simp

end Cert.KernelIdeal.LA
-- ==== Proof.KSum.lean ====
module

public import proofs.«01_k».proof.Proof.KValue

/-! The kernel's result at the extended reals in closed form, when the first three operands are real: the state
before a chunk is the sum of the products of the rows of the last row's segment, and a row's output is its product with the start
state and the sum over the rows of its segment up to it. -/

@[expose] public section

set_option maxRecDepth 16384

noncomputable section

open Cert.KernelIdeal Cert.KernelIdeal.Gen Idealize.ShloMosaic Idealize.ShloMosaic.TcCoe Idealize.SL.Sem

namespace Cert.KernelIdeal.LA

/-- The entry of a real array at a row number and a column. -/
def ent (x : S4096x64.Idx → ℝ) (u : ℕ) (a : Fin 64) : ℝ := x (ix2 ⟨u % 4096, Nat.mod_lt _ (by decide)⟩ a)

/-- A real array as an array of extended reals. -/
def up (x : S4096x64.Idx → ℝ) : Vec Ideal S4096x64 .bf16 := fun y => ((x y : ℝ) : EReal)

theorem gp_up (x : S4096x64.Idx → ℝ) (g : ℕ) (u : Fin 256) (a : Fin 64) :
    gp (up x) g (ix2 u a) = ((ent x (256 * g + u.val) a : ℝ) : EReal) := rfl

/-- The state before a chunk. -/
theorem gState_at (w : Fin 5 → BitVec 32) (hw : Segments.Ordered (ints w)) (k v : S4096x64.Idx → ℝ) (a d : Fin 64) :
    ∀ g : ℕ, g ≤ 16 → (gState w (up k) (up v) g (ix2 a d) : EReal)
      = ((Segments.segSum (fun u => ent k u a * ent v u d) (Segments.start (ints w) (((256 * g : ℕ) : ℤ) - 1))
          (256 * g) : ℝ) : EReal)
  | 0, _ => by
    refine Eq.trans (b := (0 : EReal)) ?_ (by simp [Segments.segSum])
    change (k0_pay1 (F := Ideal) (ix2 a d) : EReal) = 0
    pointwise [k0_pay1]
  | g + 1, hg => by
    refine (chunkState_at w (256 * g) (by omega) _ _ _ a d).trans ?_
    rw [gState_at w hw k v a d g (by omega)]
    have h := Segments.segSum_step hw (fun u => ent k u a * ent v u d) (256 * g)
    have e : ((256 * (g + 1) : ℕ) : ℤ) - 1 = ((256 * g : ℕ) : ℤ) + 255 := by push_cast; ring
    rw [e, show 256 * (g + 1) = 256 * g + 256 by ring, ← h, EReal.coe_add, Segments.coe_ite, Segments.coe_sum, Finset.sum_range]
    refine congrArg₂ _ rfl (Finset.sum_congr rfl fun x _ => ?_)
    rw [gp_up, gp_up, ← EReal.coe_mul, Segments.coe_ite]

/-- The product with the start state at a row. -/
theorem gProd_at (q : S4096x64.Idx → ℝ) (M0 : Vec Ideal S64x64 .bf16) (n : Fin 4096) (d : Fin 64) :
    (gProd (up q) M0 (ix2 n d) : EReal) = ∑ a : Fin 64, ((ent q n.val a : ℝ) : EReal) * M0 (ix2 a d) := by
  refine (pay3_raw _ M0 _ d).trans (Finset.sum_congr rfl fun a _ => ?_)
  refine congrArg (fun z : EReal => z * M0 (ix2 a d)) ?_
  change ((q _ : ℝ) : EReal) = ((q _ : ℝ) : EReal)
  refine congrArg (fun z => ((q (ix2 z a) : ℝ) : EReal)) (Fin.ext ?_)
  change (1024 * (n.val / 1024) + n.val % 1024) % 4096 = n.val % 4096
  omega

/-- The product with the start state at a row of a chunk. -/
theorem gp_gProd (q : S4096x64.Idx → ℝ) (M0 : Vec Ideal S64x64 .bf16) (g : ℕ) (hg : g < 16) (x : Fin 256) (d : Fin 64) :
    (gp (gProd (up q) M0) g (ix2 x d) : EReal) = ∑ a : Fin 64, ((ent q (256 * g + x.val) a : ℝ) : EReal) * M0 (ix2 a d) := by
  refine (gProd_at q M0 ⟨(256 * g + x.val) % 4096, Nat.mod_lt _ (by decide)⟩ d).trans ?_
  have e : (256 * g + x.val) % 4096 = 256 * g + x.val := by omega
  simp only [e]

/-- The output of a row of a chunk. -/
theorem gChunk_at (w : Fin 5 → BitVec 32) (hw : Segments.Ordered (ints w)) (q k v : S4096x64.Idx → ℝ)
    (M0 : Vec Ideal S64x64 .bf16) (g : ℕ) (hg : g < 16) (x : Fin 256) (d : Fin 64) :
    (gChunk w (up q) (up k) (up v) M0 g (ix2 x d) : EReal)
      = if ints w 0 ≤ ((256 * g + x.val : ℕ) : ℤ) ∧ ((256 * g + x.val : ℕ) : ℤ) < ints w 4 then
          ∑ a : Fin 64, ((ent q (256 * g + x.val) a : ℝ) : EReal) * M0 (ix2 a d)
            + ((Segments.segSum (fun u => ∑ a : Fin 64, ent q (256 * g + x.val) a * (ent k u a * ent v u d))
                (Segments.start (ints w) ((256 * g + x.val : ℕ) : ℤ)) (256 * g + x.val + 1) : ℝ) : EReal)
        else 0 := by
  refine (chunkOut_at w hw (256 * g) (by omega) _ _ _ _ _ x d).trans ?_
  refine if_congr Iff.rfl ?_ rfl
  rw [gp_gProd q M0 g hg x d, add_assoc, ← Segments.segSum_row hw _ (256 * g) x.val x.isLt, EReal.coe_add, Segments.coe_ite,
    Segments.coe_sum, Finset.sum_range]
  refine congrArg₂ _ rfl (congrArg₂ _ (if_congr Iff.rfl ?_ rfl) (Finset.sum_congr rfl fun y _ => ?_))
  · rw [← Segments.sum_mul_segSum, Segments.coe_sum]
    refine Finset.sum_congr rfl fun a _ => ?_
    rw [gState_at w hw k v a d g (by omega), EReal.coe_mul]
    rfl
  · rw [Segments.coe_ite, Segments.coe_sum]
    refine if_congr Iff.rfl ?_ rfl
    refine Eq.trans (b := ((∑ z : Fin 64, ent q (256 * g + x.val) z * ent k (256 * g + y.val) z : ℝ) : EReal)
      * ((ent v (256 * g + y.val) d : ℝ) : EReal)) (congrArg₂ _ ?_ rfl) ?_
    · rw [Segments.coe_sum]
      exact Finset.sum_congr rfl fun z _ => (EReal.coe_mul _ _).symm
    · rw [← EReal.coe_mul, Finset.sum_mul]
      exact congrArg _ (Finset.sum_congr rfl fun z _ => mul_assoc _ _ _)

/-- The result at a row. -/
theorem gOut_at (w : Fin 5 → BitVec 32) (hw : Segments.Ordered (ints w)) (q k v : S4096x64.Idx → ℝ)
    (M0 : Vec Ideal S64x64 .bf16) (n : Fin 4096) (d : Fin 64) :
    (gOut w (up q) (up k) (up v) M0 (ix2 n d) : EReal)
      = if ints w 0 ≤ (n.val : ℤ) ∧ (n.val : ℤ) < ints w 4 then
          ∑ a : Fin 64, ((ent q n.val a : ℝ) : EReal) * M0 (ix2 a d)
            + ((Segments.segSum (fun u => ∑ a : Fin 64, ent q n.val a * (ent k u a * ent v u d))
                (Segments.start (ints w) (n.val : ℤ)) (n.val + 1) : ℝ) : EReal)
        else 0 := by
  refine (gChunk_at w hw q k v M0 (n.val / 256) (by omega) ⟨n.val % 256, Nat.mod_lt _ (by decide)⟩ d).trans ?_
  have e : 256 * (n.val / 256) + n.val % 256 = n.val := Nat.div_add_mod _ _
  simp only [e]

end Cert.KernelIdeal.LA
-- ==== Proof.RefOps.lean ====
module

public import proofs.«01_k».proof.Proof.Gen.ReferenceIdeal.Read
public import proofs.«01_k».proof.Proof.Segments
public import Idealize.ShloMosaic.Lib.Routing.OpsSearch

/-! The reference's operations that read more than one element, or an element that an operand names, at an index: the
products of the rows of the second and third arguments, their running sum with a first row of zeros, and the takes
from it. -/

@[expose] public section

set_option maxRecDepth 16384

noncomputable section

open Cert.ReferenceIdeal Cert.ReferenceIdeal.Gen Idealize.ShloMosaic Idealize.ShloMosaic.TcCoe Idealize.SL.Sem

namespace Cert.ReferenceIdeal.LA

open Cert.ReferenceIdeal.Read

/-- The take of a plane from the running sums: where the list names plane `r`, the result's plane is plane `r`. -/
theorem take_plane {α : Type} (x : S4097x64x64.Idx → α) (idx : IVec S4096x1 32) (n : Fin 4096) (a b : Fin 64) (r : ℕ)
    (hr : r < 4097) (h : idx (ix2 n (0 : Fin 1)) = BitVec.ofNat 32 r) :
    Host.gather gather_S4097x64x64_S4096x1_S4096x64x64_12_0_n_n_0_1_16464 x idx (ix3 n a b) = x (ix3 ⟨r, hr⟩ a b) := by
  unfold Host.gather
  refine congrArg x (funext fun e => Fin.ext ?_)
  match e with
  | ⟨0, _⟩ =>
    have hs : gather_S4097x64x64_S4096x1_S4096x64x64_12_0_n_n_0_1_16464.siIdx (ix3 n a b) ⟨0, by decide⟩ = ix2 n (0 : Fin 1) := by
      funext e
      apply Fin.ext
      match e with
      | ⟨0, _⟩ => rfl
      | ⟨1, _⟩ => rfl
    change min ((idx (gather_S4097x64x64_S4096x1_S4096x64x64_12_0_n_n_0_1_16464.siIdx (ix3 n a b) ⟨0, by decide⟩)).toInt.toNat) (4097 - 1) + 0 + 0 = r
    rw [hs, h, StableHlo.Predicate.toInt_ofNat_small _ (by omega), Int.toNat_natCast]
    omega
  | ⟨1, _⟩ =>
    change 0 + 0 + a.val = a.val
    omega
  | ⟨2, _⟩ =>
    change 0 + 0 + b.val = b.val
    omega

/-- The products of one row. -/
theorem prod_at (k v : FVec Ideal S4096x64 .f32) (n : Fin 4096) (a b : Fin 64) :
    (val_main_v4 (F := Ideal) k v (ix3 n a b) : EReal) = (k (ix2 n a) : EReal) * v (ix2 n b) := by
  rw [val_main_v4_apply, val_main_v2_apply, val_main_v3_apply, val_main_v0_apply, val_main_v1_apply]
  refine congrArg₂ (fun y z : EReal => y * z) (congrArg k (funext fun e => Fin.ext ?_)) (congrArg v (funext fun e => Fin.ext ?_))
  · match e with
    | ⟨0, _⟩ => rfl
    | ⟨1, _⟩ => rfl
  · match e with
    | ⟨0, _⟩ => rfl
    | ⟨1, _⟩ => rfl

/-- A left fold that adds is the start and the sum. -/
theorem foldl_sum {ι : Type} (step : EReal → ι → EReal) (g : ι → EReal) (h : ∀ r n, step r n = r + g n) (l : List ι)
    (z : EReal) : l.foldl step z = z + (l.map g).sum := by
  induction l generalizing z with
  | nil => simp
  | cons a l ih => rw [List.foldl_cons, ih, h, List.map_cons, List.sum_cons, add_assoc]

/-- The sum over a window that ends at `n` and is padded before the first element is the sum up to `n`. -/
theorem sum_window {f : ℕ → EReal} (N n : ℕ) (hn : n ≤ N) :
    (∑ w ∈ Finset.range (N + 1), if N ≤ n + w then f (n + w - N) else 0) = ∑ u ∈ Finset.range (n + 1), f u := by
  obtain ⟨d, rfl⟩ := Nat.exists_eq_add_of_le hn
  rw [show n + d + 1 = d + (n + 1) by omega, Finset.sum_range_add]
  rw [Finset.sum_eq_zero fun w hw => if_neg (by have := Finset.mem_range.mp hw; omega), zero_add]
  refine Finset.sum_congr rfl fun u _ => ?_
  rw [if_pos (by omega), show n + (d + u) - (n + d) = u by omega]

/-- The window's positions are numbered along its first axis. -/
def winEquiv (N : ℕ) : Fin N ≃ (⟨3, ![N, 1, 1]⟩ : Shape).Idx where
  toFun i := ix3 i (0 : Fin 1) (0 : Fin 1)
  invFun x := x 0
  left_inv _ := rfl
  right_inv x := by
    funext e
    match e with
    | ⟨0, _⟩ => rfl
    | ⟨1, _⟩ => exact Subsingleton.elim (α := Fin 1) _ _
    | ⟨2, _⟩ => exact Subsingleton.elim (α := Fin 1) _ _

/-- The running sum from a zero start over the first axis. -/
theorem window_at {N M A B : ℕ} (hN : M + 1 = N) (x : FVec Ideal ⟨3, ![N, A, B]⟩ .f32) (init : FVec Ideal S_ .f32)
    (hi : ∀ i, (init i : EReal) = 0) (h : (⟨3, ![N, A, B]⟩ : Shape).ReduceWindows ![N, 1, 1] ![1, 1, 1] ![M, 0, 0] ![0, 0, 0] ⟨3, ![N, A, B]⟩)
    (f : ℕ → EReal) (n : Fin N) (a : Fin A) (b : Fin B) (hx : ∀ u : Fin N, (x (ix3 u a b) : EReal) = f u.val) :
    (Host.reduceWindowAdd ![N, 1, 1] ![1, 1, 1] ![M, 0, 0] ![0, 0, 0] x init h h_S_ (ix3 n a b) : EReal)
      = ∑ u ∈ Finset.range (n.val + 1), f u := by
  subst hN
  have hn := n.isLt
  let g : (⟨3, ![M + 1, 1, 1]⟩ : Shape).Idx → EReal := fun w =>
    if M ≤ n.val + (w 0).val then f (n.val + (w 0).val - M) else 0
  refine (foldl_sum _ (fun k => g ((⟨3, ![M + 1, 1, 1]⟩ : Shape).rowMajor.symm k)) (fun r k => ?_) _ _).trans ?_
  · let w : (⟨3, ![M + 1, 1, 1]⟩ : Shape).Idx := (⟨3, ![M + 1, 1, 1]⟩ : Shape).rowMajor.symm k
    dsimp only
    have h0 : (w 0).val < M + 1 := (w 0).isLt
    have h1 : (w 1).val < 1 := (w 1).isLt
    have h2 : (w 2).val < 1 := (w 2).isLt
    refine congrArg (fun z : EReal => r + z) ?_
    by_cases hc : M ≤ n.val + (w 0).val
    · rw [dif_pos]
      · refine Eq.trans (b := (x (ix3 ⟨n.val + (w 0).val - M, by omega⟩ a b) : EReal)) (congrArg x (funext fun e => Fin.ext ?_)) ?_
        · match e with
          | ⟨0, _⟩ => show n.val * 1 + (w 0).val - M = n.val + (w 0).val - M; omega
          | ⟨1, _⟩ => show a.val * 1 + (w 1).val - 0 = a.val; omega
          | ⟨2, _⟩ => show b.val * 1 + (w 2).val - 0 = b.val; omega
        · rw [hx]; exact (if_pos hc).symm
      · intro e
        have ha := a.isLt
        have hb := b.isLt
        match e with
        | ⟨0, _⟩ => show M ≤ n.val * 1 + (w 0).val ∧ n.val * 1 + (w 0).val - M < M + 1; omega
        | ⟨1, _⟩ => show 0 ≤ a.val * 1 + (w 1).val ∧ a.val * 1 + (w 1).val - 0 < A; omega
        | ⟨2, _⟩ => show 0 ≤ b.val * 1 + (w 2).val ∧ b.val * 1 + (w 2).val - 0 < B; omega
    · rw [dif_neg]
      · exact (hi _).trans (if_neg hc).symm
      · intro hin
        have h := hin 0
        change M ≤ n.val * 1 + (w 0).val ∧ _ at h
        omega
  · rw [← Fin.sum_univ_def, Equiv.sum_comp, ← Equiv.sum_comp (winEquiv (M + 1)), ← sum_window M n.val (by omega), Finset.sum_range]
    exact (congrArg (fun z : EReal => z + _) (hi _)).trans (zero_add _)

/-- The running sum of the products. -/
theorem cum_at (k v : FVec Ideal S4096x64 .f32) (f : ℕ → EReal) (n : Fin 4096) (a b : Fin 64)
    (hf : ∀ u : Fin 4096, (k (ix2 u a) : EReal) * v (ix2 u b) = f u.val) :
    (val_main_v5 (F := Ideal) k v (ix3 n a b) : EReal) = ∑ u ∈ Finset.range (n.val + 1), f u := by
  unfold val_main_v5
  refine window_at (N := 4096) (M := 4095) rfl _ _ (fun i => ?_) _ f n a b fun u => (prod_at k v u a b).trans (hf u)
  rw [val_main_call0_call0_v0_apply, val_main_call0_call0_cst_apply]
  exact Ideal.ofBits_zero_f32

/-- The running sums with a first plane of zeros: plane `r` is the sum of the products of the rows before `r`. -/
theorem pc_at (k v : FVec Ideal S4096x64 .f32) (f : ℕ → EReal) (r : ℕ) (hr : r < 4097) (a b : Fin 64)
    (hf : ∀ u : Fin 4096, (k (ix2 u a) : EReal) * v (ix2 u b) = f u.val) :
    (val_main_v7 (F := Ideal) k v (ix3 ⟨r, hr⟩ a b) : EReal) = ∑ u ∈ Finset.range r, f u := by
  unfold val_main_v7
  rcases r with _ | r
  · refine (concatenate_pair_apply_left (t := S4097x64x64) (s₁ := S1x64x64) (s₂ := S4096x64x64) 0 _ _ _ _ rfl (ix3 (0 : Fin 1) a b) fun e => ?_).trans ?_
    · match e with
      | ⟨0, _⟩ => rfl
      | ⟨1, _⟩ => rfl
      | ⟨2, _⟩ => rfl
    · rw [val_main_v6_apply, val_main_cst_apply]
      exact Ideal.ofBits_zero_f32
  · refine (concatenate_pair_apply_right (t := S4097x64x64) (s₁ := S1x64x64) (s₂ := S4096x64x64) 0 _ _ _ _ rfl rfl (ix3 ⟨r, by omega⟩ a b)
      (fun e he => ?_) ?_).trans (cum_at k v f ⟨r, by omega⟩ a b hf)
    · match e with
      | ⟨0, _⟩ => exact absurd rfl he
      | ⟨1, _⟩ => rfl
      | ⟨2, _⟩ => rfl
    · rfl

end Cert.ReferenceIdeal.LA
-- ==== Proof.RefWords.lean ====
module

public import proofs.«01_k».proof.Proof.RefOps

/-! The reference's integers: the number of bounds at or below a row, whether the row is in a segment, and the start of
its segment. -/

@[expose] public section

set_option maxRecDepth 16384

noncomputable section

open Cert.ReferenceIdeal Cert.ReferenceIdeal.Gen Idealize.ShloMosaic Idealize.ShloMosaic.TcCoe Idealize.SL.Sem

namespace Cert.ReferenceIdeal.LA

open Cert.ReferenceIdeal.Read

/-- The bounds as integers. -/
def bounds (s : IVec S5 32) : Fin 5 → ℤ := fun p => (s (ix1 p)).toInt

/-- The bound numbered `q` is at or below the row. -/
def below (s : IVec S5 32) (n : ℤ) (q : ℕ) : Prop := bounds s ⟨q % 5, Nat.mod_lt _ (by decide)⟩ ≤ n

instance (s : IVec S5 32) (n : ℤ) : DecidablePred (below s n) := fun q => inferInstanceAs (Decidable (_ ≤ _))

/-- The number of bounds at or below a row. -/
def cnt (s : IVec S5 32) (n : ℤ) : ℕ := Nat.count (below s n) 5

theorem cnt_eq (s : IVec S5 32) (n : ℤ) : cnt s n = (if bounds s 0 ≤ n then 1 else 0) + (if bounds s 1 ≤ n then 1 else 0)
    + (if bounds s 2 ≤ n then 1 else 0) + (if bounds s 3 ≤ n then 1 else 0) + (if bounds s 4 ≤ n then 1 else 0) := by
  unfold cnt
  simp only [Nat.count_succ, Nat.count_zero, zero_add]
  rfl

theorem cnt_le (s : IVec S5 32) (n : ℤ) : cnt s n ≤ 5 := Nat.count_le _

/-- The row is in a segment exactly when some but not all of the bounds are at or below it. -/
theorem cnt_valid (s : IVec S5 32) (h : Segments.Ordered (bounds s)) (n : ℤ) :
    (1 ≤ cnt s n ∧ cnt s n < 5) ↔ (bounds s 0 ≤ n ∧ n < bounds s 4) := by
  obtain ⟨h0, h1, h2, h3, h4⟩ := h
  rw [cnt_eq]
  split_ifs <;> omega

/-- The last bound at or below a row of a segment is the segment's start. -/
theorem cnt_start (s : IVec S5 32) (h : Segments.Ordered (bounds s)) (n : ℤ) (hv : bounds s 0 ≤ n ∧ n < bounds s 4)
    (hc : cnt s n - 1 < 5) : bounds s ⟨cnt s n - 1, hc⟩ = Segments.start (bounds s) n := by
  obtain ⟨h0, h1, h2, h3, h4⟩ := h
  have e := cnt_eq s n
  generalize cnt s n = c at *
  unfold Segments.start
  split_ifs at e ⊢ <;> first | omega | (subst e; rfl)

theorem toInt_row (n : ℕ) (h : n < 4096) : (BitVec.ofNat 32 n).toInt = (n : ℤ) :=
  StableHlo.Predicate.toInt_ofNat_small _ (by omega)

/-- The count as the reference takes it. -/
theorem count_at (s : IVec S5 32) (n : Fin 4096) :
    val_main_v15 (F := Ideal) s (ix1 n) = BitVec.ofNat 32 (cnt s n.val) := by
  unfold val_main_v15
  refine Routing.reduce_count (n := 4096) (m := 5) (by decide) (val_main_v13 (F := Ideal) s) natLt_1_32 _ _ n
    (below s n.val) fun q => ?_
  have e9 : idx_main_v9 (idx_main_v11 (ix2 n q)) = ix1 q := funext fun e => match e with | ⟨0, _⟩ => rfl
  have e10 : (idx_main_v10 (idx_main_v12 (ix2 n q)) 0).val = n.val := rfl
  change val_main_v13 (F := Ideal) s (ix2 n q) = 1#1 ↔ _
  rw [val_main_v13_apply, val_main_v11_apply, val_main_v9_apply, val_main_v12_apply, val_main_v10_apply, val_main_v8_apply]
  rw [e9, e10]
  change BitVec.ofBool (decide ((s (ix1 q)).toInt ≤ (BitVec.ofNat 32 n.val).toInt)) = 1#1 ↔ _
  rw [toInt_row _ n.isLt]
  have eq : (⟨q.val % 5, Nat.mod_lt _ (by decide)⟩ : Fin 5) = q := Fin.ext (Nat.mod_eq_of_lt q.isLt)
  unfold below bounds
  rw [eq]
  by_cases hc : (s (ix1 q)).toInt ≤ (n.val : ℤ) <;> simp [hc]

/-- Whether a row is in a segment, as the reference says it. -/
theorem valid_at (s : IVec S5 32) (n : Fin 4096) :
    val_main_v22 (F := Ideal) s (ix1 n) = BitVec.ofBool (decide (1 ≤ cnt s n.val ∧ cnt s n.val < 5)) := by
  simp only [val_main_v22_apply, val_main_v19_apply, val_main_v21_apply, val_main_v18_apply, val_main_v20_apply,
    val_main_c_1_apply, val_main_c_2_apply, val_main_v17_apply, val_main_v16_apply, val_main_c_0_apply, count_at]
  have h := cnt_le s n.val
  generalize cnt s n.val = c at h
  interval_cases c <;> decide

/-- The number of a row's segment, as the reference takes it. -/
theorem seg_at (s : IVec S5 32) (n : Fin 4096) (h1 : 1 ≤ cnt s n.val) (h2 : cnt s n.val < 5) :
    val_main_v29 (F := Ideal) s (ix2 n (0 : Fin 1)) = BitVec.ofNat 32 (cnt s n.val - 1) := by
  have e : idx_main_v29 (ix2 n (0 : Fin 1)) = ix1 n := funext fun e => match e with | ⟨0, _⟩ => rfl
  simp only [val_main_v29_apply, e, val_main_v28_apply, val_main_v25_apply, val_main_v27_apply, val_main_v26_apply,
    val_main_v24_apply, val_main_c_5_apply, val_main_c_6_apply, val_main_v23_apply, val_main_call1_v4_apply,
    val_main_call1_v3_apply, val_main_call1_v2_apply, val_main_call1_v1_apply, val_main_call1_v0_apply,
    val_main_c_3_apply, val_main_c_4_apply, val_main_v17_apply, val_main_v16_apply, val_main_c_0_apply, count_at]
  generalize cnt s n.val = c at h1 h2
  interval_cases c <;> decide

/-- The start of a row's segment, as the reference takes it. -/
theorem start_at (s : IVec S5 32) (n : Fin 4096) (h1 : 1 ≤ cnt s n.val) (h2 : cnt s n.val < 5) :
    val_main_v30 (F := Ideal) s (ix1 n) = s (ix1 ⟨cnt s n.val - 1, by omega⟩) := by
  unfold val_main_v30
  exact Routing.take_ap gather_S5_S4096x1_S4096_n_0_n_n_0_1_1 rfl rfl rfl rfl s _ n (by omega) (by omega)
    (seg_at s n h1 h2)

/-- The plane that the reference takes at a row's segment start. -/
theorem start_plane (s : IVec S5 32) (h : Segments.Ordered (bounds s)) (n : Fin 4096)
    (hv : bounds s 0 ≤ (n.val : ℤ) ∧ (n.val : ℤ) < bounds s 4) :
    val_main_v48 (F := Ideal) s (ix2 n (0 : Fin 1)) = BitVec.ofNat 32 (Segments.start (bounds s) n.val).toNat := by
  obtain ⟨h1, h2⟩ := (cnt_valid s h n.val).mpr hv
  have e : idx_main_v48 (ix2 n (0 : Fin 1)) = ix1 n := funext fun e => match e with | ⟨0, _⟩ => rfl
  simp only [val_main_v48_apply, e, val_main_v47_apply, val_main_v44_apply, val_main_v43_apply, val_main_c_10_apply,
    start_at s n h1 h2]
  have hs := cnt_start s h n.val hv (by omega)
  have h0 := Segments.start_nonneg h (n.val : ℤ)
  unfold bounds at hs
  change (s (ix1 ⟨cnt s n.val - 1, _⟩)).toInt = Segments.start (bounds s) n.val at hs
  rw [← hs] at h0 ⊢
  generalize s (ix1 ⟨cnt s n.val - 1, _⟩) = x at h0 ⊢
  have hx : IntOp.cmpi .slt x 0#32 = 0#1 := by
    change BitVec.ofBool (decide (x.toInt < (0#32).toInt)) = 0#1
    rw [decide_eq_false (by simpa using h0)]
    rfl
  rw [hx]
  change x = _
  apply BitVec.eq_of_toInt_eq
  rw [BitVec.toInt_eq_toNat_cond, BitVec.toInt_eq_toNat_cond, BitVec.toNat_ofNat] at *
  have := x.isLt
  split_ifs at * <;> omega

/-- The plane that the reference takes after a row. -/
theorem next_plane (n : Fin 4096) : val_main_v39 (F := Ideal) (ix2 n (0 : Fin 1)) = BitVec.ofNat 32 (n.val + 1) := by
  have e : (idx_main_v39 (ix2 n (0 : Fin 1)) 0).val = n.val := rfl
  have e' : ((ix2 n (0 : Fin 1) : S4096x1.Idx) 0).val = n.val := rfl
  have ew : IntOp.addi (BitVec.ofNat 32 n.val) 1#32 = BitVec.ofNat 32 (n.val + 1) := (BitVec.ofNat_add _ _).symm
  simp only [val_main_v39_apply, val_main_v38_apply, val_main_v35_apply, val_main_v34_apply, val_main_c_8_apply,
    val_main_v33_apply, val_main_v32_apply, val_main_c_7_apply, val_main_v8_apply, e, e', ew]
  have hx : IntOp.cmpi .slt (BitVec.ofNat 32 (n.val + 1)) 0#32 = 0#1 := by
    change BitVec.ofBool (decide ((BitVec.ofNat 32 (n.val + 1)).toInt < (0#32).toInt)) = 0#1
    rw [StableHlo.Predicate.toInt_ofNat_small _ (by omega), decide_eq_false (by simp; omega)]
    rfl
  rw [hx]
  rfl

end Cert.ReferenceIdeal.LA
-- ==== Proof.RefValue.lean ====
module

public import proofs.«01_k».proof.Proof.RefWords

/-! The reference's result at the extended reals in closed form, when the first three arguments are real. -/

@[expose] public section

set_option maxRecDepth 16384

noncomputable section

open Cert.ReferenceIdeal Cert.ReferenceIdeal.Gen Idealize.ShloMosaic Idealize.ShloMosaic.TcCoe Idealize.SL.Sem

namespace Cert.ReferenceIdeal.LA

open Cert.ReferenceIdeal.Read

/-- The entry of a real array at a row number and a column. -/
def entry (x : S4096x64.Idx → ℝ) (u : ℕ) (a : Fin 64) : ℝ := x (ix2 ⟨u % 4096, Nat.mod_lt _ (by decide)⟩ a)

/-- A real array as an array of extended reals. -/
def lift (x : S4096x64.Idx → ℝ) : FVec Ideal S4096x64 .f32 := fun y => ((x y : ℝ) : EReal)

theorem lift_at (x : S4096x64.Idx → ℝ) (n : Fin 4096) (a : Fin 64) : (lift x (ix2 n a) : EReal) = ((entry x n.val a : ℝ) : EReal) := by
  have e : (⟨n.val % 4096, Nat.mod_lt _ (by decide)⟩ : Fin 4096) = n := Fin.ext (Nat.mod_eq_of_lt n.isLt)
  unfold entry
  rw [e]
  rfl

/-- The sum of the products of the rows before plane `r`. -/
theorem plane_at (k v : S4096x64.Idx → ℝ) (r : ℕ) (hr : r < 4097) (a b : Fin 64) :
    (val_main_v7 (F := Ideal) (lift k) (lift v) (ix3 ⟨r, hr⟩ a b) : EReal)
      = ((∑ u ∈ Finset.range r, entry k u a * entry v u b : ℝ) : EReal) := by
  rw [Segments.coe_sum]
  exact pc_at (lift k) (lift v) (fun u => ((entry k u a * entry v u b : ℝ) : EReal)) r hr a b fun u => by
    rw [lift_at, lift_at, ← EReal.coe_mul]

/-- The state at a row of a segment. -/
theorem state_at (k v : S4096x64.Idx → ℝ) (s : IVec S5 32) (hs : Segments.Ordered (bounds s)) (M0 : FVec Ideal S64x64 .f32)
    (n : Fin 4096) (hv : bounds s 0 ≤ (n.val : ℤ) ∧ (n.val : ℤ) < bounds s 4) (a b : Fin 64) :
    (val_main_v50 (F := Ideal) (lift k) (lift v) s M0 (ix3 n a b) : EReal)
      = (M0 (ix2 a b) : EReal) + ((∑ u ∈ Finset.range (n.val + 1), entry k u a * entry v u b : ℝ) : EReal)
        - ((∑ u ∈ Finset.range (Segments.start (bounds s) n.val).toNat, entry k u a * entry v u b : ℝ) : EReal) := by
  have hle := Segments.start_le hs n.val hv.1
  have e0 : val_main_v41 (F := Ideal) M0 (ix3 n a b) = M0 (ix2 a b) := by
    rw [val_main_v41_apply, val_main_v31_apply]
    exact congrArg M0 (funext fun e => Fin.ext (match e with | ⟨0, _⟩ => rfl | ⟨1, _⟩ => rfl))
  have e1 : (val_main_v40 (F := Ideal) (lift k) (lift v) (ix3 n a b) : EReal)
      = ((∑ u ∈ Finset.range (n.val + 1), entry k u a * entry v u b : ℝ) : EReal) := by
    unfold val_main_v40
    exact (take_plane _ _ n a b (n.val + 1) (by omega) (next_plane n)).trans (plane_at k v _ _ a b)
  have e2 : (val_main_v49 (F := Ideal) (lift k) (lift v) s (ix3 n a b) : EReal)
      = ((∑ u ∈ Finset.range (Segments.start (bounds s) n.val).toNat, entry k u a * entry v u b : ℝ) : EReal) := by
    unfold val_main_v49
    exact (take_plane _ _ n a b (Segments.start (bounds s) n.val).toNat (by omega) (start_plane s hs n hv)).trans
      (plane_at k v _ _ a b)
  rw [val_main_v50_apply, val_main_v42_apply, e0]
  exact congrArg₂ (fun y z : EReal => (M0 (ix2 a b) : EReal) + y - z) e1 e2

/-- The reference's result at a row: the row's product with the start state and the sum over the rows of its segment up
to it, or zero outside the segments. -/
theorem result_at (q k v : S4096x64.Idx → ℝ) (s : IVec S5 32) (hs : Segments.Ordered (bounds s)) (M0 : FVec Ideal S64x64 .f32)
    (n : Fin 4096) (d : Fin 64) :
    (val_main_v54 (F := Ideal) (lift q) (lift k) (lift v) s M0 (ix2 n d) : EReal)
      = if bounds s 0 ≤ (n.val : ℤ) ∧ (n.val : ℤ) < bounds s 4 then
          ∑ a : Fin 64, ((entry q n.val a : ℝ) : EReal) * M0 (ix2 a d)
            + ((Segments.segSum (fun u => ∑ a : Fin 64, entry q n.val a * (entry k u a * entry v u d))
                (Segments.start (bounds s) (n.val : ℤ)) (n.val + 1) : ℝ) : EReal)
        else 0 := by
  have hm : val_main_call2_v0 (F := Ideal) s (ix2 n d)
      = BitVec.ofBool (decide (bounds s 0 ≤ (n.val : ℤ) ∧ (n.val : ℤ) < bounds s 4)) := by
    have ei : idx_main_v52 (idx_main_call2_v0 (ix2 n d)) = ix1 n :=
      funext fun e => Fin.ext (match e with | ⟨0, _⟩ => rfl)
    rw [val_main_call2_v0_apply, val_main_v52_apply, ei, valid_at]
    exact congrArg BitVec.ofBool (decide_eq_decide.mpr (cnt_valid s hs n.val))
  rw [val_main_v54_apply, hm]
  by_cases hv : bounds s 0 ≤ (n.val : ℤ) ∧ (n.val : ℤ) < bounds s 4
  · rw [if_pos hv, decide_eq_true hv]
    change val_main_v51 (F := Ideal) (lift q) (lift k) (lift v) s M0 (ix2 n d) = _
    rw [val_main_v51_apply]
    have hle := Segments.start_le hs n.val hv.1
    have h0 := Segments.start_nonneg hs (n.val : ℤ)
    have hn : (((Segments.start (bounds s) (n.val : ℤ)).toNat : ℕ) : ℤ) = Segments.start (bounds s) n.val := Int.toNat_of_nonneg h0
    have h := Segments.row_eq (fun a => entry q n.val a) (fun a => (M0 (ix2 a d) : EReal)) (fun a u => entry k u a * entry v u d)
      (Segments.start (bounds s) n.val).toNat (n.val + 1) (by omega)
    rw [hn] at h
    refine Eq.trans (Finset.sum_congr rfl fun a _ => ?_) h
    have el : lidx_main_v51 (ix2 n d) a = ix2 n a := funext fun e => match e with | ⟨0, _⟩ => rfl | ⟨1, _⟩ => rfl
    have er : ridx_main_v51 (ix2 n d) a = ix3 n a d := funext fun e => match e with | ⟨0, _⟩ => rfl | ⟨1, _⟩ => rfl | ⟨2, _⟩ => rfl
    rw [el, er]
    exact congrArg₂ (fun y z : EReal => y * z) (lift_at q n a) (state_at k v s hs M0 n hv a d)
  · rw [if_neg hv, decide_eq_false hv]
    change val_main_v53 (F := Ideal) (ix2 n d) = _
    rw [val_main_v53_apply, val_main_cst_12_apply]
    exact Ideal.ofBits_zero_f32

end Cert.ReferenceIdeal.LA
-- ==== Proof.Equation.lean ====
module

public import proofs.«01_k».proof.Defs
public import proofs.«01_k».proof.Proof.Gen.Kernel.Frame
public import proofs.«01_k».proof.Proof.State
public import proofs.«01_k».proof.Proof.KSum
public import proofs.«01_k».proof.Proof.RefValue
public import Idealize.ShloMosaic.Adequacy
public import Idealize.ShloMosaic.Init

/-! What the precondition says of the arguments, the kernel's run and the reference's run read with it, and the claims
from them. -/

@[expose] public section

set_option maxRecDepth 16384

noncomputable section

open Idealize.ShloMosaic Idealize.ShloMosaic.TcCoe Idealize.SL.Sem

namespace Cert.Pre_finite_and_ordered

/-- The side conditions the precondition states. -/
theorem facts : Facts where
  bcast_S_S4096x64 := by decide
  slices_S5_S4_0 := by decide
  slices_S5_S4_1 := by decide
  slices_S5_S1_0 := by decide
  bcast_S_S1 := by decide

/-- An array whose magnitudes are all below infinity is real. -/
theorem real_of_below (h : S_.BroadcastsInDim S4096x64 (![] : Fin 0 → Fin S4096x64.rank)) (x : FVec Ideal S4096x64 .f32)
    (hx : cmpf .olt (Host.absf x) (broadcastInDim S4096x64 ![] h (constant (F := Ideal) S_ .f32 0x7F800000#32)) = fun _ => 1#1) :
    ∃ y : S4096x64.Idx → ℝ, x = Cert.ReferenceIdeal.LA.lift y := by
  have hi : ∀ i, ∃ r : ℝ, (x i : EReal) = r := fun i => by
    apply Segments.exists_coe_of_abs_lt
    have h1 := congrFun hx i
    have h2 : BitVec.ofBool (decide (max (x i : EReal) (-(x i : EReal)) < Ideal.ofBits .f32 0x7F800000#32)) = 1#1 := h1
    have h3 : Ideal.ofBits .f32 0x7F800000#32 = (⊤ : EReal) := by simp [Ideal.ofBits, Ideal.ieee]
    rw [h3] at h2
    by_contra hn
    rw [decide_eq_false hn] at h2
    exact absurd h2 (by decide)
  exact ⟨fun i => (hi i).choose, funext fun i => (hi i).choose_spec⟩

/-- Words each not above the next, the first not negative, mark segments in order. -/
theorem ordered_of (h0 : S5.Slices ![0] S4) (h1 : S5.Slices ![1] S4) (h2 : S5.Slices ![0] S1)
    (h3 : S_.BroadcastsInDim S1 (![] : Fin 0 → Fin S1.rank)) (s : IVec S5 32)
    (ha : cmpi .sle (extractStridedSlice S4 ![0] s h0) (extractStridedSlice S4 ![1] s h1) = fun _ => 1#1)
    (hb : cmpi .sge (extractStridedSlice S1 ![0] s h2) (broadcastInDim S1 ![] h3 (constantI S_ 32 0#32)) = fun _ => 1#1) :
    Segments.Ordered (Cert.ReferenceIdeal.LA.bounds s) := by
  have step : ∀ (p : Fin 4), (s (ix1 p.castSucc)).toInt ≤ (s (ix1 p.succ)).toInt := fun p => by
    have e0 : extractStridedSlice S4 ![0] s h0 (ix1 p) = s (ix1 p.castSucc) :=
      congrArg s (funext fun a => Fin.ext (match a with | ⟨0, _⟩ => Nat.zero_add _))
    have e1 : extractStridedSlice S4 ![1] s h1 (ix1 p) = s (ix1 p.succ) :=
      congrArg s (funext fun a => Fin.ext (match a with | ⟨0, _⟩ => Nat.add_comm _ _))
    have h := congrFun ha (ix1 p)
    change BitVec.ofBool (BitVec.sle (extractStridedSlice S4 ![0] s h0 (ix1 p)) (extractStridedSlice S4 ![1] s h1 (ix1 p))) = 1#1 at h
    rw [e0, e1] at h
    by_contra hn
    rw [show BitVec.sle (s (ix1 p.castSucc)) (s (ix1 p.succ)) = false from by
      unfold BitVec.sle; exact decide_eq_false hn] at h
    exact absurd h (by decide)
  have first : 0 ≤ (s (ix1 0)).toInt := by
    have e0 : extractStridedSlice S1 ![0] s h2 (ix1 (0 : Fin 1)) = s (ix1 0) :=
      congrArg s (funext fun a => Fin.ext (match a with | ⟨0, _⟩ => rfl))
    have h := congrFun hb (ix1 (0 : Fin 1))
    change BitVec.ofBool (BitVec.sle (0#32) (extractStridedSlice S1 ![0] s h2 (ix1 (0 : Fin 1)))) = 1#1 at h
    rw [e0] at h
    by_contra hn
    rw [show BitVec.sle (0#32) (s (ix1 0)) = false from by
      unfold BitVec.sle; exact decide_eq_false hn] at h
    exact absurd h (by decide)
  exact ⟨first, step 0, step 1, step 2, step 3⟩

end Cert.Pre_finite_and_ordered

namespace Cert.KernelIdeal.LA

open Cert.KernelIdeal Cert.KernelIdeal.Gen

variable (m : (ℓ : Loc nD τ sig) → Buf (Elt Ideal) ℓ)

/-- The narrowed arguments are the arguments. -/
theorem V_q (c : Dev nD) : (V m c main_v0 : S4096x64.Idx → EReal) = m ((c : Thread nD τ).loc main_arg0) := by
  dsimp only [V, hostOps0]
  after_results
  rfl
theorem V_k (c : Dev nD) : (V m c main_v1 : S4096x64.Idx → EReal) = m ((c : Thread nD τ).loc main_arg1) := by
  dsimp only [V, hostOps0]
  after_results
  rfl
theorem V_v (c : Dev nD) : (V m c main_v2 : S4096x64.Idx → EReal) = m ((c : Thread nD τ).loc main_arg2) := by
  dsimp only [V, hostOps0]
  after_results
  rfl
theorem V_M0 (c : Dev nD) : (V m c main_v3 : S64x64.Idx → EReal) = m ((c : Thread nD τ).loc main_arg4) := by
  dsimp only [V, hostOps0]
  after_results
  rfl

/-- The table's words are the fourth argument's. -/
theorem words_eq (c : Dev nD) : words m c = fun p => (m ((c : Thread nD τ).loc main_arg3) : IVec S5 32) (ix1 p) := by
  obtain rfl : c = 0 := Subsingleton.elim _ _
  funext p
  exact congrFun (V_main_arg3 m 0) (ix1 p)

/-- On real rows and segments in order the kernel's result is the reference's. -/
theorem result_eq (c : Dev nD) (q k v : S4096x64.Idx → ℝ)
    (hq : m ((c : Thread nD τ).loc main_arg0) = Cert.ReferenceIdeal.LA.lift q)
    (hk : m ((c : Thread nD τ).loc main_arg1) = Cert.ReferenceIdeal.LA.lift k)
    (hv : m ((c : Thread nD τ).loc main_arg2) = Cert.ReferenceIdeal.LA.lift v)
    (hs : Segments.Ordered (Cert.ReferenceIdeal.LA.bounds (m ((c : Thread nD τ).loc main_arg3)))) :
    result m c = Cert.ReferenceIdeal.Read.val_main_v54 (F := Ideal) (Cert.ReferenceIdeal.LA.lift q)
      (Cert.ReferenceIdeal.LA.lift k) (Cert.ReferenceIdeal.LA.lift v) (m ((c : Thread nD τ).loc main_arg3))
      (m ((c : Thread nD τ).loc main_arg4)) := by
  have eq : V m c main_v0 = up q := (V_q m c).trans hq
  have ek : V m c main_v1 = up k := (V_k m c).trans hk
  have ev : V m c main_v2 = up v := (V_v m c).trans hv
  have eM : V m c main_v3 = (m ((c : Thread nD τ).loc main_arg4) : S64x64.Idx → EReal) := V_M0 m c
  unfold result
  rw [words_eq, eq, ek, ev, eM]
  funext i
  obtain ⟨n, d, rfl⟩ : ∃ (n : Fin 4096) (d : Fin 64), i = ix2 n d :=
    ⟨i 0, i 1, funext fun e => match e with | ⟨0, _⟩ => rfl | ⟨1, _⟩ => rfl⟩
  exact (gOut_at _ hs q k v _ n d).trans (Cert.ReferenceIdeal.LA.result_at q k v _ hs _ n d).symm

end Cert.KernelIdeal.LA

namespace Cert.Claims

open Cert.KernelIdeal.LA (result result_eq)

theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's run: the result array holds the result, the arguments are as they were. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v4) = result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  open Cert.KernelIdeal Cert.KernelIdeal.Gen in
  exact (θ_run defs _ _).mono (fun _ h c => ⟨((h c).1 4).trans (Cert.KernelIdeal.LA.final_o m trivial c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ trivial)

theorem algebraic : Cert.algebraic_KernelIdeal_ReferenceIdeal_pre_finite_and_ordered
    (hKernelIdeal := Cert.KernelIdeal.Gen.facts) (hReferenceIdeal := Cert.ReferenceIdeal.Gen.facts)
    (hPre_finite_and_ordered := Cert.Pre_finite_and_ordered.facts) := by
  intro m ρ m' ρ' hpre hagree
  refine ⟨fun c => result m c, kernel_run m ρ, ?_⟩
  refine (θ_run Cert.ReferenceIdeal.defs _ _).mono (fun _ h c => ?_) (Cert.ReferenceIdeal.Value.run (F := Ideal) m' ρ')
  refine ⟨(h c).1.trans ?_, (h c).2⟩
  obtain ⟨h0, h1, h2, h3, h4⟩ := hagree c
  obtain ⟨pq, pk, pv, pa, pb⟩ := hpre c
  obtain ⟨q, hq⟩ := Cert.Pre_finite_and_ordered.real_of_below _ _ pq
  obtain ⟨k, hk⟩ := Cert.Pre_finite_and_ordered.real_of_below _ _ pk
  obtain ⟨v, hv⟩ := Cert.Pre_finite_and_ordered.real_of_below _ _ pv
  have hs := Cert.Pre_finite_and_ordered.ordered_of _ _ _ _ _ pa pb
  rw [Cert.ReferenceIdeal.Read.val_main_v54_eq, h0, h1, h2, h3, h4]
  refine Eq.trans ?_ (result_eq m c q k v hq hk hv hs).symm
  have e : ∀ x y z : FVec Ideal Cert.ReferenceIdeal.S4096x64 .f32, x = Cert.ReferenceIdeal.LA.lift q →
      y = Cert.ReferenceIdeal.LA.lift k → z = Cert.ReferenceIdeal.LA.lift v → ∀ s M0,
      Cert.ReferenceIdeal.Read.val_main_v54 (F := Ideal) x y z s M0
        = Cert.ReferenceIdeal.Read.val_main_v54 (F := Ideal) (Cert.ReferenceIdeal.LA.lift q) (Cert.ReferenceIdeal.LA.lift k)
          (Cert.ReferenceIdeal.LA.lift v) s M0 := by
    rintro _ _ _ rfl rfl rfl s M0
    rfl
  exact e _ _ _ hq hk hv _ _

end Cert.Claims
-- ==== Proof.lean ====
/- The claims of this directory, put together from the generated frames and from Proof/Equation.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_finite_and_ordered.facts,
    fun m ρ _ => Cert.Kernel.Gen.frame m ρ trivial,
    fun m ρ _ => Cert.KernelIdeal.Gen.frame m ρ trivial,
    fun m ρ _ => Cert.KernelIdeal.Gen.frame m ρ trivial,
    Cert.Claims.frame_reference,
    fun m ρ _ => Cert.Claims.frame_reference m ρ trivial,
    trivial,
    Cert.Claims.algebraic⟩

end Cert.Proof

end
